-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S3x640x12x2x128 : Shape := ⟨5, ![3, 640, 12, 2, 128]⟩
abbrev S3x640x12x2 : Shape := ⟨4, ![3, 640, 12, 2]⟩
abbrev S3x640x12x256 : Shape := ⟨4, ![3, 640, 12, 256]⟩
abbrev S12x256 : Shape := ⟨2, ![12, 256]⟩
abbrev S128 : Shape := ⟨1, ![128]⟩
abbrev S256 : Shape := ⟨1, ![256]⟩
abbrev S3x640 : Shape := ⟨2, ![3, 640]⟩
abbrev S3x12x2x640x128 : Shape := ⟨5, ![3, 12, 2, 640, 128]⟩
abbrev S3x12x2x640 : Shape := ⟨4, ![3, 12, 2, 640]⟩
abbrev S3x12x640x256 : Shape := ⟨4, ![3, 12, 640, 256]⟩
abbrev S1x128 : Shape := ⟨2, ![1, 128]⟩
abbrev S1x256 : Shape := ⟨2, ![1, 256]⟩
abbrev S3x1x640 : Shape := ⟨3, ![3, 1, 640]⟩
abbrev S3x640x3072 : Shape := ⟨3, ![3, 640, 3072]⟩
abbrev S1x1x2x640x128 : Shape := ⟨5, ![1, 1, 2, 640, 128]⟩
abbrev S1x1x2x640 : Shape := ⟨4, ![1, 1, 2, 640]⟩
abbrev S1x1x640x256 : Shape := ⟨4, ![1, 1, 640, 256]⟩
abbrev S1x1x640 : Shape := ⟨3, ![1, 1, 640]⟩
abbrev S1x640x256 : Shape := ⟨3, ![1, 640, 256]⟩
abbrev S640x640 : Shape := ⟨2, ![640, 640]⟩
abbrev S1x640 : Shape := ⟨2, ![1, 640]⟩
abbrev S128x128 : Shape := ⟨2, ![128, 128]⟩
abbrev S640x128 : Shape := ⟨2, ![640, 128]⟩
abbrev S1 : Shape := ⟨1, ![1]⟩
abbrev S1x1 : Shape := ⟨2, ![1, 1]⟩
abbrev S2x640 : Shape := ⟨2, ![2, 640]⟩
abbrev S1x1x1x128x128 : Shape := ⟨5, ![1, 1, 1, 128, 128]⟩
abbrev S128x1 : Shape := ⟨2, ![128, 1]⟩
abbrev S1x1x128x256 : Shape := ⟨4, ![1, 1, 128, 256]⟩
abbrev S128x256 : Shape := ⟨2, ![128, 256]⟩
abbrev S1x128x256 : Shape := ⟨3, ![1, 128, 256]⟩
abbrev S1x1x1x256x128 : Shape := ⟨5, ![1, 1, 1, 256, 128]⟩
abbrev S256x128 : Shape := ⟨2, ![256, 128]⟩
abbrev S1x1x256x256 : Shape := ⟨4, ![1, 1, 256, 256]⟩
abbrev S256x256 : Shape := ⟨2, ![256, 256]⟩
abbrev S128x384 : Shape := ⟨2, ![128, 384]⟩
abbrev S1x1x1x384x128 : Shape := ⟨5, ![1, 1, 1, 384, 128]⟩
abbrev S384x128 : Shape := ⟨2, ![384, 128]⟩
abbrev S1x384 : Shape := ⟨2, ![1, 384]⟩
abbrev S1x1x384x256 : Shape := ⟨4, ![1, 1, 384, 256]⟩
abbrev S384x256 : Shape := ⟨2, ![384, 256]⟩
abbrev S128x512 : Shape := ⟨2, ![128, 512]⟩
abbrev S1x1x1x512x128 : Shape := ⟨5, ![1, 1, 1, 512, 128]⟩
abbrev S512x128 : Shape := ⟨2, ![512, 128]⟩
abbrev S1x512 : Shape := ⟨2, ![1, 512]⟩
abbrev S1x1x512x256 : Shape := ⟨4, ![1, 1, 512, 256]⟩
abbrev S512x256 : Shape := ⟨2, ![512, 256]⟩
abbrev S128x640 : Shape := ⟨2, ![128, 640]⟩
abbrev S1x1x1x640x128 : Shape := ⟨5, ![1, 1, 1, 640, 128]⟩
abbrev S640x256 : Shape := ⟨2, ![640, 256]⟩

abbrev nBuf : Space → Nat
  | .hbm => 24
  | .vmem => 21
  | .smem => 0
  | _ => 0

abbrev bufTy : (tb : Table) → Fin (tcTables nBuf tb) → BufTy
  | .hbm, ⟨0, _⟩ => ⟨S3x640x12x2x128, .fp8e4m3⟩
  | .hbm, ⟨1, _⟩ => ⟨S3x640x12x2, .f32⟩
  | .hbm, ⟨2, _⟩ => ⟨S3x640x12x2x128, .fp8e4m3⟩
  | .hbm, ⟨3, _⟩ => ⟨S3x640x12x2, .f32⟩
  | .hbm, ⟨4, _⟩ => ⟨S3x640x12x256, .fp8e4m3⟩
  | .hbm, ⟨5, _⟩ => ⟨S12x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S3x640, .i32⟩
  | .hbm, ⟨12, _⟩ => ⟨S3x12x2x640x128, .fp8e4m3⟩
  | .hbm, ⟨13, _⟩ => ⟨S3x12x2x640, .f32⟩
  | .hbm, ⟨14, _⟩ => ⟨S3x12x2x640x128, .fp8e4m3⟩
  | .hbm, ⟨15, _⟩ => ⟨S3x12x2x640, .f32⟩
  | .hbm, ⟨16, _⟩ => ⟨S3x12x640x256, .fp8e4m3⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x256, .f32⟩
  | .hbm, ⟨22, _⟩ => ⟨S3x1x640, .i32⟩
  | .hbm, ⟨23, _⟩ => ⟨S3x640x3072, .bf16⟩
  | .local _ .vmem, ⟨0, _⟩ => ⟨S1x1x2x640x128, .fp8e4m3⟩
  | .local _ .vmem, ⟨1, _⟩ => ⟨S1x1x2x640x128, .fp8e4m3⟩
  | .local _ .vmem, ⟨2, _⟩ => ⟨S1x1x2x640, .f32⟩
  | .local _ .vmem, ⟨3, _⟩ => ⟨S1x1x2x640, .f32⟩
  | .local _ .vmem, ⟨4, _⟩ => ⟨S1x1x2x640x128, .fp8e4m3⟩
  | .local _ .vmem, ⟨5, _⟩ => ⟨S1x1x2x640x128, .fp8e4m3⟩
  | .local _ .vmem, ⟨6, _⟩ => ⟨S1x1x2x640, .f32⟩
  | .local _ .vmem, ⟨7, _⟩ => ⟨S1x1x2x640, .f32⟩
  | .local _ .vmem, ⟨8, _⟩ => ⟨S1x1x640x256, .fp8e4m3⟩
  | .local _ .vmem, ⟨9, _⟩ => ⟨S1x1x640x256, .fp8e4m3⟩
  | .local _ .vmem, ⟨10, _⟩ => ⟨S12x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x256, .f32⟩
  | .local _ .vmem, ⟨16, _⟩ => ⟨S1x1x640, .i32⟩
  | .local _ .vmem, ⟨17, _⟩ => ⟨S1x1x640, .i32⟩
  | .local _ .vmem, ⟨18, _⟩ => ⟨S1x640x256, .bf16⟩
  | .local _ .vmem, ⟨19, _⟩ => ⟨S1x640x256, .bf16⟩
  | .local _ .vmem, ⟨20, _⟩ => ⟨S640x640, .f32⟩
  | _, _ => ⟨S3x640x12x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![3, 12], ![false, false]⟩

def k0_off1 (i : grid0.Coords) : Fin 2 → Nat :=
  let arg1 : BitVec 32 := BitVec.ofNat 32 (i 1).val
  let v22 : Index := Scalar.indexCast arg1
  let c0_10 : Index := 0#32
  ![v22.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2x640x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x640 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x640x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== Reference.lean ====
abbrev S3x640x12x2x128 : Shape := ⟨5, ![3, 640, 12, 2, 128]⟩
abbrev S3x640x12x2 : Shape := ⟨4, ![3, 640, 12, 2]⟩
abbrev S3x640x12x256 : Shape := ⟨4, ![3, 640, 12, 256]⟩
abbrev S12x256 : Shape := ⟨2, ![12, 256]⟩
abbrev S128 : Shape := ⟨1, ![128]⟩
abbrev S256 : Shape := ⟨1, ![256]⟩
abbrev S3x640 : Shape := ⟨2, ![3, 640]⟩
abbrev S_ : Shape := ⟨0, ![]⟩
abbrev S3x12x2x640x640 : Shape := ⟨5, ![3, 12, 2, 640, 640]⟩
abbrev S3x12x2x640 : Shape := ⟨4, ![3, 12, 2, 640]⟩
abbrev S3x12x2x640x1 : Shape := ⟨5, ![3, 12, 2, 640, 1]⟩
abbrev S3x12x2x1x640 : Shape := ⟨5, ![3, 12, 2, 1, 640]⟩
abbrev S640 : Shape := ⟨1, ![640]⟩
abbrev S1x1x640 : Shape := ⟨3, ![1, 1, 640]⟩
abbrev S1x640x1 : Shape := ⟨3, ![1, 640, 1]⟩
abbrev S1x640x640 : Shape := ⟨3, ![1, 640, 640]⟩
abbrev S3x1x640 : Shape := ⟨3, ![3, 1, 640]⟩
abbrev S3x640x1 : Shape := ⟨3, ![3, 640, 1]⟩
abbrev S3x640x640 : Shape := ⟨3, ![3, 640, 640]⟩
abbrev S3x1x1x640x640 : Shape := ⟨5, ![3, 1, 1, 640, 640]⟩
abbrev S3x12x1x640x640 : Shape := ⟨5, ![3, 12, 1, 640, 640]⟩
abbrev S3x12x640x640 : Shape := ⟨4, ![3, 12, 640, 640]⟩
abbrev S3x12x256x640 : Shape := ⟨4, ![3, 12, 256, 640]⟩
abbrev S1x1x12x256 : Shape := ⟨4, ![1, 1, 12, 256]⟩
abbrev S3x640x12 : Shape := ⟨3, ![3, 640, 12]⟩
abbrev S3x640x12x1 : Shape := ⟨4, ![3, 640, 12, 1]⟩
abbrev S1x1x1x256 : Shape := ⟨4, ![1, 1, 1, 256]⟩
abbrev S3x640x3072 : Shape := ⟨3, ![3, 640, 3072]⟩

abbrev nBuf : Space → Nat
  | .hbm => 105
  | .vmem => 6
  | .smem => 0
  | _ => 0

abbrev bufTy : (tb : Table) → Fin (tcTables nBuf tb) → BufTy
  | .hbm, ⟨0, _⟩ => ⟨S3x640x12x2x128, .fp8e4m3⟩
  | .hbm, ⟨1, _⟩ => ⟨S3x640x12x2, .f32⟩
  | .hbm, ⟨2, _⟩ => ⟨S3x640x12x2x128, .fp8e4m3⟩
  | .hbm, ⟨3, _⟩ => ⟨S3x640x12x2, .f32⟩
  | .hbm, ⟨4, _⟩ => ⟨S3x640x12x256, .fp8e4m3⟩
  | .hbm, ⟨5, _⟩ => ⟨S12x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S3x640, .i32⟩
  | .hbm, ⟨12, _⟩ => ⟨S3x640x12x2x128, .f32⟩
  | .hbm, ⟨13, _⟩ => ⟨S3x640x12x2x128, .f32⟩
  | .hbm, ⟨14, _⟩ => ⟨S3x640x12x256, .bf16⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S3x12x2x640x640, .f32⟩
  | .hbm, ⟨27, _⟩ => ⟨S3x12x2x640, .f32⟩
  | .hbm, ⟨28, _⟩ => ⟨S3x12x2x640, .f32⟩
  | .hbm, ⟨29, _⟩ => ⟨S3x12x2x640x1, .f32⟩
  | .hbm, ⟨30, _⟩ => ⟨S3x12x2x640x640, .f32⟩
  | .hbm, ⟨31, _⟩ => ⟨S3x12x2x640x640, .f32⟩
  | .hbm, ⟨32, _⟩ => ⟨S3x12x2x1x640, .f32⟩
  | .hbm, ⟨33, _⟩ => ⟨S3x12x2x640x640, .f32⟩
  | .hbm, ⟨34, _⟩ => ⟨S3x12x2x640x640, .f32⟩
  | .hbm, ⟨35, _⟩ => ⟨S_, .f32⟩
  | .hbm, ⟨36, _⟩ => ⟨S3x12x2x640x640, .f32⟩
  | .hbm, ⟨37, _⟩ => ⟨S3x12x2x640x640, .f32⟩
  | .hbm, ⟨38, _⟩ => ⟨S640, .i32⟩
  | .hbm, ⟨39, _⟩ => ⟨S1x1x640, .i32⟩
  | .hbm, ⟨40, _⟩ => ⟨S1x640x1, .i32⟩
  | .hbm, ⟨41, _⟩ => ⟨S1x640x640, .i32⟩
  | .hbm, ⟨42, _⟩ => ⟨S1x640x640, .i32⟩
  | .hbm, ⟨43, _⟩ => ⟨S1x640x640, .i1⟩
  | .hbm, ⟨44, _⟩ => ⟨S3x1x640, .i32⟩
  | .hbm, ⟨45, _⟩ => ⟨S3x640x1, .i32⟩
  | .hbm, ⟨46, _⟩ => ⟨S3x640x640, .i32⟩
  | .hbm, ⟨47, _⟩ => ⟨S3x640x640, .i32⟩
  | .hbm, ⟨48, _⟩ => ⟨S3x640x640, .i1⟩
  | .hbm, ⟨49, _⟩ => ⟨S3x640x640, .i1⟩
  | .hbm, ⟨50, _⟩ => ⟨S3x640x640, .i1⟩
  | .hbm, ⟨51, _⟩ => ⟨S3x1x1x640x640, .i1⟩
  | .hbm, ⟨52, _⟩ => ⟨S_, .f32⟩
  | .hbm, ⟨53, _⟩ => ⟨S_, .f32⟩
  | .hbm, ⟨54, _⟩ => ⟨S3x12x2x640x640, .i1⟩
  | .hbm, ⟨55, _⟩ => ⟨S3x12x2x640x640, .f32⟩
  | .hbm, ⟨56, _⟩ => ⟨S3x12x2x640x640, .f32⟩
  | .hbm, ⟨57, _⟩ => ⟨S_, .f32⟩
  | .hbm, ⟨58, _⟩ => ⟨S3x12x2x640, .f32⟩
  | .hbm, ⟨59, _⟩ => ⟨S3x12x2x640x1, .f32⟩
  | .hbm, ⟨60, _⟩ => ⟨S3x12x2x640x640, .f32⟩
  | .hbm, ⟨61, _⟩ => ⟨S3x12x2x640x640, .f32⟩
  | .hbm, ⟨62, _⟩ => ⟨S3x12x2x640x640, .f32⟩
  | .hbm, ⟨63, _⟩ => ⟨S_, .f32⟩
  | .hbm, ⟨64, _⟩ => ⟨S3x12x2x640, .f32⟩
  | .hbm, ⟨65, _⟩ => ⟨S3x12x2x640x1, .f32⟩
  | .hbm, ⟨66, _⟩ => ⟨S_, .f32⟩
  | .hbm, ⟨67, _⟩ => ⟨S3x12x2x640x1, .f32⟩
  | .hbm, ⟨68, _⟩ => ⟨S3x12x2x640x1, .f32⟩
  | .hbm, ⟨69, _⟩ => ⟨S3x12x2x640x640, .f32⟩
  | .hbm, ⟨70, _⟩ => ⟨S3x12x2x640x640, .f32⟩
  | .hbm, ⟨71, _⟩ => ⟨S3x12x1x640x640, .f32⟩
  | .hbm, ⟨72, _⟩ => ⟨S3x12x640x640, .f32⟩
  | .hbm, ⟨73, _⟩ => ⟨S3x12x1x640x640, .f32⟩
  | .hbm, ⟨74, _⟩ => ⟨S3x12x640x640, .f32⟩
  | .hbm, ⟨75, _⟩ => ⟨S3x12x640x640, .f32⟩
  | .hbm, ⟨76, _⟩ => ⟨S3x12x640x640, .f32⟩
  | .hbm, ⟨77, _⟩ => ⟨S3x12x640x640, .f32⟩
  | .hbm, ⟨78, _⟩ => ⟨S3x12x640x640, .bf16⟩
  | .hbm, ⟨79, _⟩ => ⟨S3x12x256x640, .f32⟩
  | .hbm, ⟨80, _⟩ => ⟨S3x640x12x256, .f32⟩
  | .hbm, ⟨81, _⟩ => ⟨S1x1x12x256, .f32⟩
  | .hbm, ⟨82, _⟩ => ⟨S3x640x12x256, .f32⟩
  | .hbm, ⟨83, _⟩ => ⟨S3x640x12x256, .f32⟩
  | .hbm, ⟨84, _⟩ => ⟨S3x640x12x256, .f32⟩
  | .hbm, ⟨85, _⟩ => ⟨S_, .f32⟩
  | .hbm, ⟨86, _⟩ => ⟨S3x640x12, .f32⟩
  | .hbm, ⟨87, _⟩ => ⟨S3x640x12x1, .f32⟩
  | .hbm, ⟨88, _⟩ => ⟨S_, .f32⟩
  | .hbm, ⟨89, _⟩ => ⟨S3x640x12x1, .f32⟩
  | .hbm, ⟨90, _⟩ => ⟨S3x640x12x1, .f32⟩
  | .hbm, ⟨91, _⟩ => ⟨S_, .f32⟩
  | .hbm, ⟨92, _⟩ => ⟨S3x640x12x1, .f32⟩
  | .hbm, ⟨93, _⟩ => ⟨S3x640x12x1, .f32⟩
  | .hbm, ⟨94, _⟩ => ⟨S3x640x12x1, .f32⟩
  | .hbm, ⟨95, _⟩ => ⟨S3x640x12x256, .f32⟩
  | .hbm, ⟨96, _⟩ => ⟨S3x640x12x256, .f32⟩
  | .hbm, ⟨97, _⟩ => ⟨S1x1x1x256, .f32⟩
  | .hbm, ⟨98, _⟩ => ⟨S3x640x12x256, .f32⟩
  | .hbm, ⟨99, _⟩ => ⟨S3x640x12x256, .f32⟩
  | .hbm, ⟨100, _⟩ => ⟨S_, .f32⟩
  | .hbm, ⟨101, _⟩ => ⟨S3x640x12x256, .f32⟩
  | .hbm, ⟨102, _⟩ => ⟨S3x640x12x256, .f32⟩
  | .hbm, ⟨103, _⟩ => ⟨S3x640x12x256, .bf16⟩
  | .hbm, ⟨104, _⟩ => ⟨S3x640x3072, .bf16⟩
  | .local _ .vmem, ⟨0, _⟩ => ⟨S3x640x12x2x128, .fp8e4m3⟩
  | .local _ .vmem, ⟨1, _⟩ => ⟨S3x640x12x2x128, .fp8e4m3⟩
  | .local _ .vmem, ⟨2, _⟩ => ⟨S3x640x12x256, .fp8e4m3⟩
  | .local _ .vmem, ⟨3, _⟩ => ⟨S3x640x12x2x128, .f32⟩
  | .local _ .vmem, ⟨4, _⟩ => ⟨S3x640x12x2x128, .f32⟩
  | .local _ .vmem, ⟨5, _⟩ => ⟨S3x640x12x256, .bf16⟩
  | _, _ => ⟨S3x640x12x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x12x2x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x12x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x12x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x12x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x12x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x12x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.Points.lean ====
/- The branch condition of the body over the grid points, the staging memrefs, and the scratch operand. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Tactic

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 36 := Nat.lt_of_lt_of_eq t.isLt N_0
    have e0 : (grid0.coords t 0).val = t.val / 12 % 3 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1x2x640x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x640x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x640x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x640 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x640x256 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S640x640 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Body.Out.lean ====
/- What the kernel body stores, as functions of the blocks it is handed: the bias of one batch, and the five query
   blocks of one head. -/
module

public import proofs.«01_k».proof.Proof.Body.Points

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values the body computes from its blocks -/

/-- The mixing weight λ of the two softmaxes, from the four weight rows. -/
def lamK (x6 x7 x8 x9 : Vec F S1x128 .f32) : FVec F S1x1 .f32 :=
  k0_pay25 (View.ld x6 (Rect.unit (s := S1x128) ![0, 0] S1x128.size inb_S1x128_S1x128_0_0)) (View.ld x7 (Rect.unit (s := S1x128) ![0, 0] S1x128.size inb_S1x128_S1x128_0_0)) (View.ld x8 (Rect.unit (s := S1x128) ![0, 0] S1x128.size inb_S1x128_S1x128_0_0)) (View.ld x9 (Rect.unit (s := S1x128) ![0, 0] S1x128.size inb_S1x128_S1x128_0_0))

/-- The value scales of the head of grid point `i`. -/
def vsK (i : grid0.Coords) (x5 : Vec F S12x256 .f32) : Vec F S1x256 .f32 :=
  View.ld x5 (Rect.unit (s := S12x256) (k0_off1 i) S1x256.size (k0_off1_inb i))

/-- The output gain, scaled. -/
def gainK (x10 : Vec F S1x256 .f32) : FVec F S1x256 .f32 :=
  k0_pay26 (View.ld x10 (Rect.unit (s := S1x256) ![0, 0] S1x256.size inb_S1x256_S1x256_0_0))

/-- The query scales, with the score scale multiplied in. -/
def qsK (x1 : Vec F S1x1x2x640 .f32) : FVec F S2x640 .f32 :=
  k0_pay27 (View.ld x1 (Rect.unit (s := S1x1x2x640) ![0, 0, 0, 0] S1x1x2x640.size inb_S1x1x2x640_S1x1x2x640_0_0_0_0))

/-- The key scales, as they stand in their window. -/
def ksW (x3 : Vec F S1x1x2x640 .f32) : Vec F S1x1x2x640 .f32 :=
  View.ld x3 (Rect.unit (s := S1x1x2x640) ![0, 0, 0, 0] S1x1x2x640.size inb_S1x1x2x640_S1x1x2x640_0_0_0_0)

/-- The key scales. -/
def ksK (x3 : Vec F S1x1x2x640 .f32) : FVec F S2x640 .f32 :=
  k0_pay28 (ksW x3)

/-- The codes of query block 0 (rows 0 …), component 0 and component 1. -/
def q00 (x0 : Vec F S1x1x2x640x128 .fp8e4m3) : Vec F S1x1x1x128x128 .fp8e4m3 := View.ld x0 (Rect.unit (s := S1x1x2x640x128) ![0, 0, 0, 0, 0] S1x1x1x128x128.size inb_S1x1x2x640x128_S1x1x1x128x128_0_0_0_0_0)
def q01 (x0 : Vec F S1x1x2x640x128 .fp8e4m3) : Vec F S1x1x1x128x128 .fp8e4m3 := View.ld x0 (Rect.unit (s := S1x1x2x640x128) ![0, 0, 1, 0, 0] S1x1x1x128x128.size inb_S1x1x2x640x128_S1x1x1x128x128_0_0_1_0_0)

/-- The codes of the first 128 keys, component 0 and component 1. -/
def k00 (x2 : Vec F S1x1x2x640x128 .fp8e4m3) : Vec F S1x1x1x128x128 .fp8e4m3 := View.ld x2 (Rect.unit (s := S1x1x2x640x128) ![0, 0, 0, 0, 0] S1x1x1x128x128.size inb_S1x1x2x640x128_S1x1x1x128x128_0_0_0_0_0)
def k01 (x2 : Vec F S1x1x2x640x128 .fp8e4m3) : Vec F S1x1x1x128x128 .fp8e4m3 := View.ld x2 (Rect.unit (s := S1x1x2x640x128) ![0, 0, 1, 0, 0] S1x1x1x128x128.size inb_S1x1x2x640x128_S1x1x1x128x128_0_0_1_0_0)

/-- The codes of the first 128 values. -/
def v0 (x4 : Vec F S1x1x640x256 .fp8e4m3) : Vec F S1x1x128x256 .fp8e4m3 := View.ld x4 (Rect.unit (s := S1x1x640x256) ![0, 0, 0, 0] S1x1x128x256.size inb_S1x1x640x256_S1x1x128x256_0_0_0_0)

/-- What the body stores for query block 0: the output rows 0 … 127, from the blocks and the bias `b` of
    these rows over the first 128 keys. -/
def outBlk0 (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (b : Vec F S128x128 .f32) : FVec F S1x128x256 .bf16 :=
  k0_pay34 (k0_pay33 (lamK x6 x7 x8 x9) (vsK i x5) (gainK x10) (qsK x1) (ksK x3) b (k0_pay29 (qsK x1) (ksW x3) b (q00 x0) (k00 x2)) (k0_pay30 (qsK x1) (ksW x3) b (q00 x0) (k00 x2)) (k0_pay31 (q01 x0)) (k0_pay32 (k01 x2)) (constant S128x128 .f32 0x00000000#32) (v0 x4))

/-- The codes of query block 1 (rows 128 …), component 0 and component 1. -/
def q10 (x0 : Vec F S1x1x2x640x128 .fp8e4m3) : Vec F S1x1x1x128x128 .fp8e4m3 := View.ld x0 (Rect.unit (s := S1x1x2x640x128) ![0, 0, 0, 128, 0] S1x1x1x128x128.size inb_S1x1x2x640x128_S1x1x1x128x128_0_0_0_128_0)
def q11 (x0 : Vec F S1x1x2x640x128 .fp8e4m3) : Vec F S1x1x1x128x128 .fp8e4m3 := View.ld x0 (Rect.unit (s := S1x1x2x640x128) ![0, 0, 1, 128, 0] S1x1x1x128x128.size inb_S1x1x2x640x128_S1x1x1x128x128_0_0_1_128_0)

/-- The codes of the first 256 keys, component 0 and component 1. -/
def k10 (x2 : Vec F S1x1x2x640x128 .fp8e4m3) : Vec F S1x1x1x256x128 .fp8e4m3 := View.ld x2 (Rect.unit (s := S1x1x2x640x128) ![0, 0, 0, 0, 0] S1x1x1x256x128.size inb_S1x1x2x640x128_S1x1x1x256x128_0_0_0_0_0)
def k11 (x2 : Vec F S1x1x2x640x128 .fp8e4m3) : Vec F S1x1x1x256x128 .fp8e4m3 := View.ld x2 (Rect.unit (s := S1x1x2x640x128) ![0, 0, 1, 0, 0] S1x1x1x256x128.size inb_S1x1x2x640x128_S1x1x1x256x128_0_0_1_0_0)

/-- The codes of the first 256 values. -/
def v1 (x4 : Vec F S1x1x640x256 .fp8e4m3) : Vec F S1x1x256x256 .fp8e4m3 := View.ld x4 (Rect.unit (s := S1x1x640x256) ![0, 0, 0, 0] S1x1x256x256.size inb_S1x1x640x256_S1x1x256x256_0_0_0_0)

/-- What the body stores for query block 1: the output rows 128 … 255, from the blocks and the bias `b` of
    these rows over the first 256 keys. -/
def outBlk1 (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (b : Vec F S128x256 .f32) : FVec F S1x128x256 .bf16 :=
  k0_pay40 (k0_pay38 (lamK x6 x7 x8 x9) (vsK i x5) (qsK x1) (ksK x3) b (k0_pay35 (qsK x1) (ksK x3) b (q10 x0) (k10 x2)) (k0_pay36 (qsK x1) (ksK x3) b (q10 x0) (k10 x2)) (k0_pay37 (q11 x0)) (k11 x2) (v1 x4)) (k0_pay39 (gainK x10))

/-- The codes of query block 2 (rows 256 …), component 0 and component 1. -/
def q20 (x0 : Vec F S1x1x2x640x128 .fp8e4m3) : Vec F S1x1x1x128x128 .fp8e4m3 := View.ld x0 (Rect.unit (s := S1x1x2x640x128) ![0, 0, 0, 256, 0] S1x1x1x128x128.size inb_S1x1x2x640x128_S1x1x1x128x128_0_0_0_256_0)
def q21 (x0 : Vec F S1x1x2x640x128 .fp8e4m3) : Vec F S1x1x1x128x128 .fp8e4m3 := View.ld x0 (Rect.unit (s := S1x1x2x640x128) ![0, 0, 1, 256, 0] S1x1x1x128x128.size inb_S1x1x2x640x128_S1x1x1x128x128_0_0_1_256_0)

/-- The codes of the first 384 keys, component 0 and component 1. -/
def k20 (x2 : Vec F S1x1x2x640x128 .fp8e4m3) : Vec F S1x1x1x384x128 .fp8e4m3 := View.ld x2 (Rect.unit (s := S1x1x2x640x128) ![0, 0, 0, 0, 0] S1x1x1x384x128.size inb_S1x1x2x640x128_S1x1x1x384x128_0_0_0_0_0)
def k21 (x2 : Vec F S1x1x2x640x128 .fp8e4m3) : Vec F S1x1x1x384x128 .fp8e4m3 := View.ld x2 (Rect.unit (s := S1x1x2x640x128) ![0, 0, 1, 0, 0] S1x1x1x384x128.size inb_S1x1x2x640x128_S1x1x1x384x128_0_0_1_0_0)

/-- The codes of the first 384 values. -/
def v2 (x4 : Vec F S1x1x640x256 .fp8e4m3) : Vec F S1x1x384x256 .fp8e4m3 := View.ld x4 (Rect.unit (s := S1x1x640x256) ![0, 0, 0, 0] S1x1x384x256.size inb_S1x1x640x256_S1x1x384x256_0_0_0_0)

/-- What the body stores for query block 2: the output rows 256 … 383, from the blocks and the bias `b` of
    these rows over the first 384 keys. -/
def outBlk2 (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (b : Vec F S128x384 .f32) : FVec F S1x128x256 .bf16 :=
  k0_pay46 (gainK x10) (k0_pay44 (lamK x6 x7 x8 x9) (vsK i x5) (qsK x1) (ksK x3) b (k0_pay41 (qsK x1) (ksK x3) b (q20 x0) (k20 x2)) (k0_pay42 (qsK x1) (ksK x3) b (q20 x0) (k20 x2)) (k0_pay43 (q21 x0)) (k21 x2) (v2 x4)) (k0_pay45 (lamK x6 x7 x8 x9) (vsK i x5) (qsK x1) (ksK x3) b (k0_pay41 (qsK x1) (ksK x3) b (q20 x0) (k20 x2)) (k0_pay42 (qsK x1) (ksK x3) b (q20 x0) (k20 x2)) (k0_pay43 (q21 x0)) (k21 x2) (v2 x4))

/-- The codes of query block 3 (rows 384 …), component 0 and component 1. -/
def q30 (x0 : Vec F S1x1x2x640x128 .fp8e4m3) : Vec F S1x1x1x128x128 .fp8e4m3 := View.ld x0 (Rect.unit (s := S1x1x2x640x128) ![0, 0, 0, 384, 0] S1x1x1x128x128.size inb_S1x1x2x640x128_S1x1x1x128x128_0_0_0_384_0)
def q31 (x0 : Vec F S1x1x2x640x128 .fp8e4m3) : Vec F S1x1x1x128x128 .fp8e4m3 := View.ld x0 (Rect.unit (s := S1x1x2x640x128) ![0, 0, 1, 384, 0] S1x1x1x128x128.size inb_S1x1x2x640x128_S1x1x1x128x128_0_0_1_384_0)

/-- The codes of the first 512 keys, component 0 and component 1. -/
def k30 (x2 : Vec F S1x1x2x640x128 .fp8e4m3) : Vec F S1x1x1x512x128 .fp8e4m3 := View.ld x2 (Rect.unit (s := S1x1x2x640x128) ![0, 0, 0, 0, 0] S1x1x1x512x128.size inb_S1x1x2x640x128_S1x1x1x512x128_0_0_0_0_0)
def k31 (x2 : Vec F S1x1x2x640x128 .fp8e4m3) : Vec F S1x1x1x512x128 .fp8e4m3 := View.ld x2 (Rect.unit (s := S1x1x2x640x128) ![0, 0, 1, 0, 0] S1x1x1x512x128.size inb_S1x1x2x640x128_S1x1x1x512x128_0_0_1_0_0)

/-- The codes of the first 512 values. -/
def v3 (x4 : Vec F S1x1x640x256 .fp8e4m3) : Vec F S1x1x512x256 .fp8e4m3 := View.ld x4 (Rect.unit (s := S1x1x640x256) ![0, 0, 0, 0] S1x1x512x256.size inb_S1x1x640x256_S1x1x512x256_0_0_0_0)

/-- What the body stores for query block 3: the output rows 384 … 511, from the blocks and the bias `b` of
    these rows over the first 512 keys. -/
def outBlk3 (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (b : Vec F S128x512 .f32) : FVec F S1x128x256 .bf16 :=
  k0_pay51 (gainK x10) (k0_pay49 (lamK x6 x7 x8 x9) (vsK i x5) (qsK x1) (ksK x3) b (k0_pay47 (qsK x1) (ksK x3) b (q30 x0) (k30 x2)) (k0_pay48 (qsK x1) (ksK x3) b (q30 x0) (k30 x2)) (q31 x0) (k31 x2) (v3 x4)) (k0_pay50 (lamK x6 x7 x8 x9) (vsK i x5) (qsK x1) (ksK x3) b (k0_pay47 (qsK x1) (ksK x3) b (q30 x0) (k30 x2)) (k0_pay48 (qsK x1) (ksK x3) b (q30 x0) (k30 x2)) (q31 x0) (k31 x2) (v3 x4)) (Scalar.ofBits .f32 0x3727C5AC#32)

/-- The codes of query block 4 (rows 512 …), component 0 and component 1. -/
def q40 (x0 : Vec F S1x1x2x640x128 .fp8e4m3) : Vec F S1x1x1x128x128 .fp8e4m3 := View.ld x0 (Rect.unit (s := S1x1x2x640x128) ![0, 0, 0, 512, 0] S1x1x1x128x128.size inb_S1x1x2x640x128_S1x1x1x128x128_0_0_0_512_0)
def q41 (x0 : Vec F S1x1x2x640x128 .fp8e4m3) : Vec F S1x1x1x128x128 .fp8e4m3 := View.ld x0 (Rect.unit (s := S1x1x2x640x128) ![0, 0, 1, 512, 0] S1x1x1x128x128.size inb_S1x1x2x640x128_S1x1x1x128x128_0_0_1_512_0)

/-- The codes of the first 640 keys, component 0 and component 1. -/
def k40 (x2 : Vec F S1x1x2x640x128 .fp8e4m3) : Vec F S1x1x1x640x128 .fp8e4m3 := View.ld x2 (Rect.unit (s := S1x1x2x640x128) ![0, 0, 0, 0, 0] S1x1x1x640x128.size inb_S1x1x2x640x128_S1x1x1x640x128_0_0_0_0_0)
def k41 (x2 : Vec F S1x1x2x640x128 .fp8e4m3) : Vec F S1x1x1x640x128 .fp8e4m3 := View.ld x2 (Rect.unit (s := S1x1x2x640x128) ![0, 0, 1, 0, 0] S1x1x1x640x128.size inb_S1x1x2x640x128_S1x1x1x640x128_0_0_1_0_0)

/-- The codes of the first 640 values. -/
def v4 (x4 : Vec F S1x1x640x256 .fp8e4m3) : Vec F S1x1x640x256 .fp8e4m3 := View.ld x4 (Rect.unit (s := S1x1x640x256) ![0, 0, 0, 0] S1x1x640x256.size inb_S1x1x640x256_S1x1x640x256_0_0_0_0)

/-- What the body stores for query block 4: the output rows 512 … 639, from the blocks and the bias `b` of
    these rows over the first 640 keys. -/
def outBlk4 (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (b : Vec F S128x640 .f32) : FVec F S1x128x256 .bf16 :=
  k0_pay1 (gainK x10) (k0_pay54 (lamK x6 x7 x8 x9) (vsK i x5) (qsK x1) (ksK x3) b (k0_pay52 (qsK x1) (ksK x3) b (q40 x0) (k40 x2)) (k0_pay53 (qsK x1) (ksK x3) b (q40 x0) (k40 x2)) (q41 x0) (k41 x2) (v4 x4)) (k0_pay55 (lamK x6 x7 x8 x9) (vsK i x5) (qsK x1) (ksK x3) b (k0_pay52 (qsK x1) (ksK x3) b (q40 x0) (k40 x2)) (k0_pay53 (qsK x1) (ksK x3) b (q40 x0) (k40 x2)) (q41 x0) (k41 x2) (v4 x4)) (Scalar.ofBits .f32 0x43800000#32)

/-- The output window after the body, over a bias array `d`: the five stores, last first. -/
def outK (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (d : Vec F S640x640 .f32) : Vec F S1x640x256 .bf16 :=
  View.canon [⟨Rect.unit (s := S1x640x256) ![0, 512, 0] S1x128x256.size inb_S1x640x256_S1x128x256_0_512_0, outBlk4 i x0 x1 x2 x3 x4 x5 x6 x7 x8 x9 x10 (View.ld d (Rect.unit (s := S640x640) ![512, 0] S128x640.size inb_S640x640_S128x640_512_0))⟩,
    ⟨Rect.unit (s := S1x640x256) ![0, 384, 0] S1x128x256.size inb_S1x640x256_S1x128x256_0_384_0, outBlk3 i x0 x1 x2 x3 x4 x5 x6 x7 x8 x9 x10 (View.ld d (Rect.unit (s := S640x640) ![384, 0] S128x512.size inb_S640x640_S128x512_384_0))⟩,
    ⟨Rect.unit (s := S1x640x256) ![0, 256, 0] S1x128x256.size inb_S1x640x256_S1x128x256_0_256_0, outBlk2 i x0 x1 x2 x3 x4 x5 x6 x7 x8 x9 x10 (View.ld d (Rect.unit (s := S640x640) ![256, 0] S128x384.size inb_S640x640_S128x384_256_0))⟩,
    ⟨Rect.unit (s := S1x640x256) ![0, 128, 0] S1x128x256.size inb_S1x640x256_S1x128x256_0_128_0, outBlk1 i x0 x1 x2 x3 x4 x5 x6 x7 x8 x9 x10 (View.ld d (Rect.unit (s := S640x640) ![128, 0] S128x256.size inb_S640x640_S128x256_128_0))⟩,
    ⟨Rect.unit (s := S1x640x256) ![0, 0, 0] S1x128x256.size inb_S1x640x256_S1x128x256_0_0_0, outBlk0 i x0 x1 x2 x3 x4 x5 x6 x7 x8 x9 x10 (View.ld d (Rect.unit (s := S640x640) ![0, 0] S128x128.size inb_S640x640_S128x128_0_0))⟩]

/-- The five stores cover the output window. -/
theorem outCover (p4 p3 p2 p1 p0 : Vec F S1x128x256 .bf16) (y : S1x640x256.Idx) :
    ∃ pc ∈ ([⟨Rect.unit (s := S1x640x256) ![0, 512, 0] S1x128x256.size inb_S1x640x256_S1x128x256_0_512_0, p4⟩, ⟨Rect.unit (s := S1x640x256) ![0, 384, 0] S1x128x256.size inb_S1x640x256_S1x128x256_0_384_0, p3⟩, ⟨Rect.unit (s := S1x640x256) ![0, 256, 0] S1x128x256.size inb_S1x640x256_S1x128x256_0_256_0, p2⟩, ⟨Rect.unit (s := S1x640x256) ![0, 128, 0] S1x128x256.size inb_S1x640x256_S1x128x256_0_128_0, p1⟩, ⟨Rect.unit (s := S1x640x256) ![0, 0, 0] S1x128x256.size inb_S1x640x256_S1x128x256_0_0_0, p0⟩] : List (View.Piece (Elt F) S1x640x256 .bf16)), y ∈ pc.1.set :=
  View.cover_of_tiled [⟨Rect.unit (s := S1x640x256) ![0, 512, 0] S1x128x256.size inb_S1x640x256_S1x128x256_0_512_0, p4⟩, ⟨Rect.unit (s := S1x640x256) ![0, 384, 0] S1x128x256.size inb_S1x640x256_S1x128x256_0_384_0, p3⟩, ⟨Rect.unit (s := S1x640x256) ![0, 256, 0] S1x128x256.size inb_S1x640x256_S1x128x256_0_256_0, p2⟩, ⟨Rect.unit (s := S1x640x256) ![0, 128, 0] S1x128x256.size inb_S1x640x256_S1x128x256_0_128_0, p1⟩, ⟨Rect.unit (s := S1x640x256) ![0, 0, 0] S1x128x256.size inb_S1x640x256_S1x128x256_0_0_0, p0⟩] S1x128x256.size (by rfl) y

/-- The segment numbers, as they stand in their window. -/
def segW (x11 : Vec F S1x1x640 .i32) : Vec F S1x1x640 .i32 := View.ld x11 (Rect.unit (s := S1x1x640) ![0, 0, 0] S1x1x640.size inb_S1x1x640_S1x1x640_0_0_0)

/-- The stores of the bias, last first: the blocks on and below the diagonal. -/
def biasL (x11 : Vec F S1x1x640 .i32) : List (View.Piece (Elt F) S640x640 .f32) :=
  [⟨Rect.unit (s := S640x640) ![512, 512] S128x128.size inb_S640x640_S128x128_512_512, k0_pay24 (F := F) (k0_pay2 (segW x11)) (k0_pay3 (segW x11))⟩,
    ⟨Rect.unit (s := S640x640) ![512, 384] S128x128.size inb_S640x640_S128x128_512_384, k0_pay23 (F := F) (k0_pay21 (k0_pay3 (segW x11))) (k0_pay22 (k0_pay2 (segW x11)))⟩,
    ⟨Rect.unit (s := S640x640) ![512, 256] S128x128.size inb_S640x640_S128x128_512_256, k0_pay20 (F := F) (k0_pay2 (segW x11)) (k0_pay3 (segW x11))⟩,
    ⟨Rect.unit (s := S640x640) ![512, 128] S128x128.size inb_S640x640_S128x128_512_128, k0_pay19 (F := F) (k0_pay2 (segW x11)) (k0_pay3 (segW x11))⟩,
    ⟨Rect.unit (s := S640x640) ![512, 0] S128x128.size inb_S640x640_S128x128_512_0, k0_pay18 (F := F) (k0_pay2 (segW x11)) (k0_pay3 (segW x11))⟩,
    ⟨Rect.unit (s := S640x640) ![384, 384] S128x128.size inb_S640x640_S128x128_384_384, k0_pay17 (F := F) (k0_pay15 (k0_pay2 (segW x11)) (k0_pay3 (segW x11))) k0_pay16⟩,
    ⟨Rect.unit (s := S640x640) ![384, 256] S128x128.size inb_S640x640_S128x128_384_256, k0_pay14 (F := F) (k0_pay2 (segW x11)) (k0_pay3 (segW x11))⟩,
    ⟨Rect.unit (s := S640x640) ![384, 128] S128x128.size inb_S640x640_S128x128_384_128, k0_pay13 (F := F) (k0_pay2 (segW x11)) (k0_pay3 (segW x11))⟩,
    ⟨Rect.unit (s := S640x640) ![384, 0] S128x128.size inb_S640x640_S128x128_384_0, k0_pay12 (F := F) (k0_pay2 (segW x11)) (k0_pay3 (segW x11))⟩,
    ⟨Rect.unit (s := S640x640) ![256, 256] S128x128.size inb_S640x640_S128x128_256_256, k0_pay11 (k0_pay9 (k0_pay2 (segW x11)) (k0_pay3 (segW x11))) (Scalar.ofBits .f32 0xFF800000#32) (k0_pay10 (F := F))⟩,
    ⟨Rect.unit (s := S640x640) ![256, 128] S128x128.size inb_S640x640_S128x128_256_128, k0_pay8 (F := F) (k0_pay2 (segW x11)) (k0_pay3 (segW x11))⟩,
    ⟨Rect.unit (s := S640x640) ![256, 0] S128x128.size inb_S640x640_S128x128_256_0, k0_pay7 (F := F) (k0_pay2 (segW x11)) (k0_pay3 (segW x11))⟩,
    ⟨Rect.unit (s := S640x640) ![128, 128] S128x128.size inb_S640x640_S128x128_128_128, k0_pay6 (F := F) (k0_pay2 (segW x11)) (k0_pay3 (segW x11))⟩,
    ⟨Rect.unit (s := S640x640) ![128, 0] S128x128.size inb_S640x640_S128x128_128_0, k0_pay5 (segW x11)⟩,
    ⟨Rect.unit (s := S640x640) ![0, 0] S128x128.size inb_S640x640_S128x128_0_0, k0_pay4 (segW x11)⟩]

/-- The bias array: what those stores hold. -/
def biasK (x11 : Vec F S1x1x640 .i32) : Vec F S640x640 .f32 := View.canon (biasL x11)

/-- The scratch holds the bias of the segment numbers `x11` wherever a query block reads it. -/
def Good (x11 : Vec F S1x1x640 .i32) (d : Vec F S640x640 .f32) : Prop :=
  View.ld d (Rect.unit (s := S640x640) ![0, 0] S128x128.size inb_S640x640_S128x128_0_0) = View.ld (biasK x11) (Rect.unit (s := S640x640) ![0, 0] S128x128.size inb_S640x640_S128x128_0_0) ∧
  View.ld d (Rect.unit (s := S640x640) ![128, 0] S128x256.size inb_S640x640_S128x256_128_0) = View.ld (biasK x11) (Rect.unit (s := S640x640) ![128, 0] S128x256.size inb_S640x640_S128x256_128_0) ∧
  View.ld d (Rect.unit (s := S640x640) ![256, 0] S128x384.size inb_S640x640_S128x384_256_0) = View.ld (biasK x11) (Rect.unit (s := S640x640) ![256, 0] S128x384.size inb_S640x640_S128x384_256_0) ∧
  View.ld d (Rect.unit (s := S640x640) ![384, 0] S128x512.size inb_S640x640_S128x512_384_0) = View.ld (biasK x11) (Rect.unit (s := S640x640) ![384, 0] S128x512.size inb_S640x640_S128x512_384_0) ∧
  View.ld d (Rect.unit (s := S640x640) ![512, 0] S128x640.size inb_S640x640_S128x640_512_0) = View.ld (biasK x11) (Rect.unit (s := S640x640) ![512, 0] S128x640.size inb_S640x640_S128x640_512_0)

/-- The output depends on the scratch only through the rows the query blocks read. -/
theorem outK_good (i : grid0.Coords) (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (x11 : Vec F S1x1x640 .i32) (d : Vec F S640x640 .f32) (h : Good x11 d) :
    outK i x0 x1 x2 x3 x4 x5 x6 x7 x8 x9 x10 d = outK i x0 x1 x2 x3 x4 x5 x6 x7 x8 x9 x10 (biasK x11) := by
  obtain ⟨h0, h1, h2, h3, h4⟩ := h
  unfold outK
  rw [h0, h1, h2, h3, h4]

/-- After the bias stores, over any earlier contents, the scratch holds the bias wherever a query block reads it: each
    of the five loads lies in the stored blocks. -/
theorem good_writes {κ : Kind} {sp : Space} (v : View sig κ sp S640x640 .f32) (f : v.ty.Contents (Elt F)) (x11 : Vec F S1x1x640 .i32) :
    Good x11 (v.read (Elt F) (v.writes (Elt F) f (biasL x11))) :=
  ⟨(View.readAt_writes_of_cover v f (biasL x11) ((Rect.unit (s := S640x640) ![0, 0] S128x128.size inb_S640x640_S128x128_0_0)).toLoadRect (LoadRect.cover_of_covChk _ _ (.leaf 14) (by rfl))).trans (View.readCov_eq_canon' v _ _),
    (View.readAt_writes_of_cover v f (biasL x11) ((Rect.unit (s := S640x640) ![128, 0] S128x256.size inb_S640x640_S128x256_128_0)).toLoadRect (LoadRect.cover_of_covChk _ _ (.split 1 128 (.leaf 13) (.leaf 12)) (by rfl))).trans (View.readCov_eq_canon' v _ _),
    (View.readAt_writes_of_cover v f (biasL x11) ((Rect.unit (s := S640x640) ![256, 0] S128x384.size inb_S640x640_S128x384_256_0)).toLoadRect (LoadRect.cover_of_covChk _ _ (.split 1 128 (.leaf 11) (.split 1 128 (.leaf 10) (.leaf 9))) (by rfl))).trans (View.readCov_eq_canon' v _ _),
    (View.readAt_writes_of_cover v f (biasL x11) ((Rect.unit (s := S640x640) ![384, 0] S128x512.size inb_S640x640_S128x512_384_0)).toLoadRect (LoadRect.cover_of_covChk _ _ (.split 1 128 (.leaf 8) (.split 1 128 (.leaf 7) (.split 1 128 (.leaf 6) (.leaf 5)))) (by rfl))).trans (View.readCov_eq_canon' v _ _),
    (View.readAt_writes_of_cover v f (biasL x11) ((Rect.unit (s := S640x640) ![512, 0] S128x640.size inb_S640x640_S128x640_512_0)).toLoadRect (LoadRect.cover_of_covChk _ _ (.split 1 128 (.leaf 4) (.split 1 128 (.leaf 3) (.split 1 128 (.leaf 2) (.split 1 128 (.leaf 1) (.leaf 0))))) (by rfl))).trans (View.readCov_eq_canon' v _ _)⟩

end Cert.KernelIdeal.Body

end
-- ==== Proof.Body.RunA.lean ====
/- One grid point at a batch's first head: the body writes the bias and the output block. -/
module

public import proofs.«01_k».proof.Proof.Body.Points
public import proofs.«01_k».proof.Proof.Body.Out

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a grid point that writes the bias (its head is the first): from the blocks and any scratch it stores
    the output, and leaves the bias in the scratch. -/
theorem runA (c : Dev nD) (i : grid0.Coords) (arg2 : Memref sig .tc .vmem S1x1x2x640x128 .fp8e4m3) (harg2 : arg2.IsWhole) (arg3 : Memref sig .tc .vmem S1x1x2x640 .f32) (harg3 : arg3.IsWhole) (arg4 : Memref sig .tc .vmem S1x1x2x640x128 .fp8e4m3) (harg4 : arg4.IsWhole) (arg5 : Memref sig .tc .vmem S1x1x2x640 .f32) (harg5 : arg5.IsWhole) (arg6 : Memref sig .tc .vmem S1x1x640x256 .fp8e4m3) (harg6 : arg6.IsWhole) (arg7 : Memref sig .tc .vmem S12x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x256 .f32) (harg12 : arg12.IsWhole) (arg13 : Memref sig .tc .vmem S1x1x640 .i32) (harg13 : arg13.IsWhole) (arg14 : Memref sig .tc .vmem S1x640x256 .bf16) (harg14 : arg14.IsWhole) (arg15 : Memref sig .tc .vmem S640x640 .f32) (harg15 : arg15.IsWhole) (hc0 : cond0_0 i)
    (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (x11 : Vec F S1x1x640 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outK i x0 x1 x2 x3 x4 x5 x6 x7 x8 x9 x10 (biasK x11)) ∗ (∃ d, ⌜Good x11 d⌝ ∗ owns (c : Thread nD τ) arg15 fullShare d))-∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_diff_attn_eq_skeleton]; unfold cc0_diff_attn_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, Hk⟩
    subst hf0 hf1 hf2 hf3 hf4 hf5 hf6 hf7 hf8 hf9 hf10 hf11
    sl_exec (disch := first | sl_exact hc0)
    sl_step
    iapply Hk
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _; isplitr; · ipureintro; exact rfl
      iexact H8
    isplitl [H9]
    · iexists _; isplitr; · ipureintro; exact rfl
      iexact H9
    isplitl [H10]
    · iexists _; isplitr; · ipureintro; exact rfl
      iexact H10
    isplitl [H11]
    · iexists _; isplitr; · ipureintro; exact rfl
      iexact H11
    isplitl [H12]
    · iexists _; isplitr; swap; · iexact H12
      ipureintro
      refine (View.read_writes_eq_canon _ _ _ (outCover _ _ _ _ _)).trans ?_
      sl_unfold_run_names
      simp only [View.readCov_eq_canon']
      rfl
    iexists _; isplitr; swap
    · iexists _; isplitr; swap; · iexact HS0
      ipureintro; rfl
    ipureintro
    sl_unfold_run_names
    exact good_writes _ _ _

end Cert.KernelIdeal.Body

end
-- ==== Proof.Body.RunB.lean ====
/- One grid point at a later head of a batch: the body reads the bias it finds and writes the output block. -/
module

public import proofs.«01_k».proof.Proof.Body.Points
public import proofs.«01_k».proof.Proof.Body.Out

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a grid point that reuses the bias (its head is not the first): from the blocks and a scratch that
    holds the bias, it stores the output and leaves the scratch as it was. -/
theorem runB (c : Dev nD) (i : grid0.Coords) (arg2 : Memref sig .tc .vmem S1x1x2x640x128 .fp8e4m3) (harg2 : arg2.IsWhole) (arg3 : Memref sig .tc .vmem S1x1x2x640 .f32) (harg3 : arg3.IsWhole) (arg4 : Memref sig .tc .vmem S1x1x2x640x128 .fp8e4m3) (harg4 : arg4.IsWhole) (arg5 : Memref sig .tc .vmem S1x1x2x640 .f32) (harg5 : arg5.IsWhole) (arg6 : Memref sig .tc .vmem S1x1x640x256 .fp8e4m3) (harg6 : arg6.IsWhole) (arg7 : Memref sig .tc .vmem S12x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x256 .f32) (harg12 : arg12.IsWhole) (arg13 : Memref sig .tc .vmem S1x1x640 .i32) (harg13 : arg13.IsWhole) (arg14 : Memref sig .tc .vmem S1x640x256 .bf16) (harg14 : arg14.IsWhole) (arg15 : Memref sig .tc .vmem S640x640 .f32) (harg15 : arg15.IsWhole) (hc0 : ¬cond0_0 i)
    (x0 : Vec F S1x1x2x640x128 .fp8e4m3) (x1 : Vec F S1x1x2x640 .f32) (x2 : Vec F S1x1x2x640x128 .fp8e4m3) (x3 : Vec F S1x1x2x640 .f32) (x4 : Vec F S1x1x640x256 .fp8e4m3) (x5 : Vec F S12x256 .f32) (x6 : Vec F S1x128 .f32) (x7 : Vec F S1x128 .f32) (x8 : Vec F S1x128 .f32) (x9 : Vec F S1x128 .f32) (x10 : Vec F S1x256 .f32) (x11 : Vec F S1x1x640 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, ⌜Good x11 d⌝ ∗ owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outK i x0 x1 x2 x3 x4 x5 x6 x7 x8 x9 x10 (biasK x11)) ∗ (∃ d, ⌜Good x11 d⌝ ∗ owns (c : Thread nD τ) arg15 fullShare d))-∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_diff_attn_eq_skeleton]; unfold cc0_diff_attn_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %hG, %fs0, %hfs0, HS0⟩, Hk⟩
    subst hf0 hf1 hf2 hf3 hf4 hf5 hf6 hf7 hf8 hf9 hf10 hf11 hfs0
    sl_exec (disch := first | sl_exact hc0)
    sl_step
    iapply Hk
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _; isplitr; · ipureintro; exact rfl
      iexact H8
    isplitl [H9]
    · iexists _; isplitr; · ipureintro; exact rfl
      iexact H9
    isplitl [H10]
    · iexists _; isplitr; · ipureintro; exact rfl
      iexact H10
    isplitl [H11]
    · iexists _; isplitr; · ipureintro; exact rfl
      iexact H11
    isplitl [H12]
    · iexists _; isplitr; swap; · iexact H12
      ipureintro
      rw [← outK_good _ _ _ _ _ _ _ _ _ _ _ _ _ _ hG]
      refine (View.read_writes_eq_canon _ _ _ (outCover _ _ _ _ _)).trans ?_
      rfl
    iexists _
    isplitr; · ipureintro; exact hG
    iexists _; isplitr; swap; · iexact HS0
    ipureintro; rfl

end Cert.KernelIdeal.Body

end
-- ==== Proof.Body.Frame.lean ====
/- The run of the kernel over the whole grid: every point stores its output block, and the scratch carries the bias of
   a batch from its first head to the others. -/
module

public import proofs.«01_k».proof.Proof.Body.RunA
public import proofs.«01_k».proof.Proof.Body.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- Index facts over all points: the block of the segment numbers is the batch's. -/
theorem idx11 : ∀ t : Fin cfg0.N, win0_11.index t = ![t.val / 12, 0, 0] := (by decide +kernel : ∀ t : Fin grid0.N, _)

/-- Two points of one batch see the same segment numbers. -/
theorem seg_eq (c : Dev nD) (t t' : Fin cfg0.N) (h : t.val / 12 = t'.val / 12) :
    (iblk m c 11 t : Vec F S1x1x640 .i32) = iblk m c 11 t' := by
  funext y
  blk_ext [iblk, V, idx11 t, idx11 t']

/-- What is carried from point to point: the scratch, holding the bias of the batch of the point before, and the
    generator register. -/
def Carry (c : Dev nD) (n : Nat) : sProp 𝕄 :=
  iprop((∃ d, ⌜∀ t : Fin cfg0.N, t.val + 1 = n → Good (iblk m c 11 t) d⌝ ∗ owns (c : Thread nD τ) scM0_0 fullShare d) ∗ (∃ r, prngReg c r))

/-- The proof data of the one pipeline on core `c`: the arrays as the region finds them (`V`); after the body at
    point `t` each input's buffer at its block and the output at what the body stores; the invariant `Carry`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (biasK (iblk m c 11 t))
  Φ n := Carry m c n.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (biasK (iblk m c 11 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2400000 in
/-- The body at any point: the inputs' memrefs hold their blocks; at a first head the scratch may hold anything and ends
    with the bias; at a later head it holds the bias the batch's first head left, and the segment numbers are the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Carry m c (t.val + 1) from rfl,
    show (dats m 0 c).Φ t.castSucc = Carry m c t.val from rfl,
    show (dats m 0 c).owesAt () t.succ = (dats m 0 c).owesAt () t.castSucc from rfl,
    after0_0, after0_1, after0_2, after0_3, after0_4, after0_5, after0_6, after0_7, after0_8, after0_9, after0_10, after0_11, after0_12]
  unfold Carry
  have hN : t.val < 36 := lt_of_lt_of_eq t.isLt (show cfg0.N = 36 from N_0)
  by_cases h0 : t.val % 12 = 0
  · iintro ⟨⟨⟨%ds, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexists _; iexact HS0
    iintro ⟨H0, H1, H2, H3, H4, H5, H6, H7, H8, H9, H10, H11, H12, ⟨%ds2, %hG2, HS0⟩⟩
    isplitl [HS0 Hg]
    · isplitl [HS0]
      · iexists ds2; isplitr; swap; · iexact HS0
        ipureintro
        intro t' ht'
        rw [show t' = t from Fin.ext (by omega)]
        exact hG2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨%ds, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]
    · iexists ds; isplitr; swap; · iexact HS0
      ipureintro
      have ht : t.val - 1 < cfg0.N := lt_of_le_of_lt (Nat.sub_le _ _) t.isLt
      rw [seg_eq m c t ⟨t.val - 1, ht⟩ (by show t.val / 12 = (t.val - 1) / 12; omega)]
      exact hG ⟨t.val - 1, ht⟩ (by show t.val - 1 + 1 = t.val; omega)
    iintro ⟨H0, H1, H2, H3, H4, H5, H6, H7, H8, H9, H10, H11, H12, ⟨%ds2, %hG2, HS0⟩⟩
    isplitl [HS0 Hg]
    · isplitl [HS0]
      · iexists ds2; isplitr; swap; · iexact HS0
        ipureintro
        intro t' ht'
        rw [show t' = t from Fin.ext (by omega)]
        exact hG2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch. -/
theorem carry_in (c : Dev nD) : (Pipeline.ΦA spec0 c : sProp 𝕄) ⊢ (dats m 0 c).Φ 0 := by
  rw [show (dats m 0 c).Φ 0 = Carry m c 0 from rfl, PhiA0_eq]
  unfold Carry
  iintro ⟨⟨%d, HS0⟩, Hg⟩
  isplitl [HS0]
  · iexists d; isplitr; swap; · iexact HS0
    ipureintro
    intro t ht
    exact absurd ht (Nat.succ_ne_zero _)
  iexact Hg

/-- After the last point what the scratch holds is forgotten. -/
theorem carry_out (c : Dev nD) : (dats m 0 c).Φ (Fin.last cfg0.N) ⊢ (Pipeline.ΦA spec0 c : sProp 𝕄) := by
  rw [show (dats m 0 c).Φ (Fin.last cfg0.N) = Carry m c cfg0.N from rfl, PhiA0_eq]
  unfold Carry
  iintro ⟨⟨%d, -, HS0⟩, Hg⟩
  isplitl [HS0]
  · iexists d; iexact HS0
  iexact Hg

/-! ## The run and the frame -/

set_option backward.isDefEq.respectTransparency.types false in
/-- `run_main`, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

/-- From any memory with zero counters every execution terminates; the arrays end as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Body

end
-- ==== Proof.Plain.lean ====
/- The frame of the kernel as it is, from the frame of its idealized printing read with the constant's own word. -/
module

public import proofs.«01_k».proof.Defs
public import proofs.«01_k».proof.Proof.Gen.Kernel
public import proofs.«01_k».proof.Proof.Body.Frame

@[expose] public section

set_option maxRecDepth 16384

noncomputable section

namespace Cert.Kernel.Plain

open Cert.Kernel Idealize.ShloMosaic Idealize.ShloMosaic.TcCoe Idealize.SL.Sem

variable {F : FTy → Type} [FloatOps F]

/-- A named constant read as the word it was printed with. -/
local instance plain : Named F := ⟨fun _ _ φ bits => Scalar.ofBits φ bits⟩

/-- The kernel's body is the idealized one at this reading. -/
theorem body_eq : Cert.Kernel.cc0_diff_attn (F := F) = Cert.KernelIdeal.cc0_diff_attn (F := F) := by rfl

set_option maxHeartbeats 2000000 in
/-- So are the body tables. -/
theorem defs₀_eq : Cert.Kernel.defs₀ (F := F) = Cert.KernelIdeal.defs₀ (F := F) := by
  unfold Cert.Kernel.defs₀ Cert.KernelIdeal.defs₀
  rw [body_eq]
  congr 1
  funext l a
  rcases l with ⟨_ | n, h⟩
  · rfl
  · exact absurd h (Nat.not_lt.2 (Nat.le_add_left _ _))

/-- And those of the pipeline's programs. -/
theorem defs_eq : Cert.Kernel.defs (F := F) = Cert.KernelIdeal.defs (F := F) := by
  unfold Cert.Kernel.defs Cert.KernelIdeal.defs
  rw [defs₀_eq]; rfl
/-- And the host programs. -/
theorem main_eq : Cert.Kernel.main (F := F) = Cert.KernelIdeal.main (F := F) := by rfl

/-- The argument arrays end unchanged, and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  rw [defs_eq, main_eq]
  exact Cert.KernelIdeal.Body.frame (F := F) m ρ

end Cert.Kernel.Plain

end
-- ==== Proof.Value.Spec.lean ====
/- One output row in plain mathematics, twice: as the kernel's query blocks compute it from a prefix of the keys, and
   as the reference computes it from all of them; and the proof that the two are equal. No array, no program. -/
module

public import Idealize.ShloMosaic.Lib.Pointwise

@[expose] public section

noncomputable section

namespace Cert.Attn

open Idealize.ShloMosaic

/-! ## The two rows -/

/-- Query `r` sees key `k`: the key is not after it and lies in its segment. -/
def Sees (seg : Fin 640 → BitVec 32) (r k : Fin 640) : Prop := (k : ℕ) ≤ r ∧ seg k = seg r

instance (seg : Fin 640 → BitVec 32) (r k : Fin 640) : Decidable (Sees seg r k) := by unfold Sees; infer_instance

/-- The row maximum, from −∞. -/
def rowMax {n : ℕ} (s : Fin n → EReal) : EReal := Finset.fold max (Ideal.ofBits .f32 0xFF800000#32) s Finset.univ

/-- What both programs do with the mixed row: the root-mean-square normalization's factor. -/
def invNorm (o : Fin 256 → EReal) : EReal :=
  Ideal.rsqrt (Ideal.div (∑ x, o x * o x) (Ideal.ofBits .f32 0x43800000#32) + Ideal.ofBits .f32 0x3727C5AC#32)

/-- The kernel's score of key `x` among the first `n`: the scale `C` is multiplied into the query scale, and the mask
    is an added bias. -/
def kScore {n : ℕ} (q : Fin 128 → EReal) (k : Fin n → Fin 128 → EReal) (qs : EReal) (ks : Fin n → EReal) (C : EReal)
    (b : Fin n → EReal) (x : Fin n) : EReal :=
  (∑ d, q d * k x d) * ks x * (qs * C) + b x

/-- The kernel's exponential, to base two. -/
def kExp {n : ℕ} (s : Fin n → EReal) (x : Fin n) : EReal := Ideal.exp2 (s x - rowMax s)

/-- The kernel's attention weight: λ is multiplied into the second component's reciprocal. -/
def kAttn {n : ℕ} (lam : EReal) (s : Fin 2 → Fin n → EReal) (x : Fin n) : EReal :=
  kExp (s 0) x * Ideal.div 1 (∑ y, kExp (s 0) y) - kExp (s 1) x * (lam * Ideal.div 1 (∑ y, kExp (s 1) y))

/-- The kernel's mixed row. -/
def kMix {n : ℕ} (lam : EReal) (s : Fin 2 → Fin n → EReal) (v : Fin n → Fin 256 → EReal) (vs : Fin 256 → EReal)
    (j : Fin 256) : EReal :=
  (∑ x, kAttn lam s x * v x j) * vs j

/-- The kernel's output row: the last scale is multiplied into the gain. -/
def kRow {n : ℕ} (lam : EReal) (s : Fin 2 → Fin n → EReal) (v : Fin n → Fin 256 → EReal) (vs gain : Fin 256 → EReal)
    (j : Fin 256) : EReal :=
  kMix lam s v vs j * invNorm (kMix lam s v vs) * (gain j * Ideal.ofBits .f32 0x3EAAF212#32)

/-- The reference's score of key `x` among all 640, −∞ where it is not seen. -/
def rScore (q : Fin 128 → EReal) (k : Fin 640 → Fin 128 → EReal) (qs : EReal) (ks : Fin 640 → EReal)
    (P : Fin 640 → Prop) [DecidablePred P] (x : Fin 640) : EReal :=
  if P x then (∑ d, q d * k x d) * qs * ks x * Ideal.ofBits .f32 0x3DB504F3#32 else ⊥

/-- The reference's exponential. -/
def rExp (s : Fin 640 → EReal) (x : Fin 640) : EReal := Ideal.exp (s x - rowMax s)

/-- The reference's probability. -/
def rProb (s : Fin 640 → EReal) (x : Fin 640) : EReal := rExp s x * Ideal.div 1 (∑ y, rExp s y)

/-- The reference's attention weight. -/
def rAttn (lam : EReal) (s : Fin 2 → Fin 640 → EReal) (x : Fin 640) : EReal := rProb (s 0) x - lam * rProb (s 1) x

/-- The reference's mixed row. -/
def rMix (lam : EReal) (s : Fin 2 → Fin 640 → EReal) (v : Fin 640 → Fin 256 → EReal) (vs : Fin 256 → EReal)
    (j : Fin 256) : EReal :=
  (∑ x, v x j * rAttn lam s x) * vs j

/-- The reference's output row. -/
def rRow (lam : EReal) (s : Fin 2 → Fin 640 → EReal) (v : Fin 640 → Fin 256 → EReal) (vs gain : Fin 256 → EReal)
    (j : Fin 256) : EReal :=
  rMix lam s v vs j * invNorm (rMix lam s v vs) * gain j * Ideal.ofBits .f32 0x3EAAF212#32

/-- The mixing weight λ from the four weight rows. -/
def lamV (x6 x7 x8 x9 : Fin 128 → EReal) : EReal :=
  Ideal.exp (∑ x, x6 x * x7 x) - Ideal.exp (∑ x, x8 x * x9 x) + Ideal.ofBits .f32 0x3F2A86F7#32

/-- The whole result: batch `b`, query `r`, head `h`, element `j`, from the codes, the scales, the weight rows, the gain
    and the segment numbers. -/
def out (q k : Fin 3 → Fin 640 → Fin 12 → Fin 2 → Fin 128 → EReal) (qs ks : Fin 3 → Fin 640 → Fin 12 → Fin 2 → EReal)
    (v : Fin 3 → Fin 640 → Fin 12 → Fin 256 → EReal) (vs : Fin 12 → Fin 256 → EReal) (x6 x7 x8 x9 : Fin 128 → EReal)
    (gain : Fin 256 → EReal) (seg : Fin 3 → Fin 640 → BitVec 32) (b : Fin 3) (r : Fin 640) (h : Fin 12) (j : Fin 256) : EReal :=
  rRow (lamV x6 x7 x8 x9)
    (fun c => rScore (q b r h c) (fun y => k b y h c) (qs b r h c) (fun y => ks b y h c) (Sees (seg b) r))
    (fun y => v b y h) (vs h) gain j

/-! ## The constants -/

theorem neg_inf : Ideal.ofBits .f32 0xFF800000#32 = (⊥ : EReal) := by simp [Ideal.ofBits, Ideal.ieee]

theorem scale_val : Ideal.ofBits .f32 0x3DB504F3#32 = (((11863283 : ℝ) / 134217728 : ℝ) : EReal) := by
  simp [Ideal.ofBits, Ideal.ieee, -EReal.coe_mul]; norm_num

/-! ## The mask's words -/

theorem sel (c : BitVec 1) (x : EReal) (p : Prop) [Decidable p] (h : c = 1 ↔ p) :
    Scalar.select c x (Ideal.ofBits .f32 0xFF800000#32) = if p then x else ⊥ := by
  rw [Scalar.select, neg_inf]
  exact if_congr h rfl rfl

theorem cmpi_eq (a b : BitVec 32) : IntOp.cmpi .eq a b = 1 ↔ a = b := by
  unfold IntOp.cmpi
  by_cases h : a = b
  · simp [h]
  · simp [h, beq_eq_false_iff_ne.mpr h]

theorem cmpi_sle (k r : ℕ) (hk : k < 640) (hr : r < 640) : IntOp.cmpi .sle (BitVec.ofNat 32 k) (BitVec.ofNat 32 r) = 1 ↔ k ≤ r := by
  have e : (BitVec.ofNat 32 k).sle (BitVec.ofNat 32 r) = decide (k ≤ r) := by
    rw [BitVec.sle_eq_decide, BitVec.toInt_eq_toNat_of_lt, BitVec.toInt_eq_toNat_of_lt] <;> simp only [BitVec.toNat_ofNat] <;> (try rw [Nat.mod_eq_of_lt (by omega)]) <;> (try rw [Nat.mod_eq_of_lt (by omega)]) <;> (try omega)
    exact decide_eq_decide.mpr (by omega)
  unfold IntOp.cmpi
  simp only [e]
  by_cases h : k ≤ r <;> simp [h]

theorem andi_one (a b : BitVec 1) : IntOp.andi a b = 1 ↔ a = 1 ∧ b = 1 := by
  revert a b; decide

/-! ## The change of base -/

/-- 1 / ln 2, the change of base. -/
def L : ℝ := (Real.log 2)⁻¹

theorem L_pos : 0 < L := inv_pos.mpr (Real.log_pos (by norm_num))

theorem exp2_mul (y : EReal) : Ideal.exp2 ((L : EReal) * y) = Ideal.exp y := by
  induction y with
  | bot => rw [EReal.coe_mul_bot_of_pos L_pos]; rfl
  | top => rw [EReal.coe_mul_top_of_pos L_pos]; rfl
  | coe y =>
    rw [← EReal.coe_mul]
    show (((2 : ℝ) ^ (L * y) : ℝ) : EReal) = ((Real.exp y : ℝ) : EReal)
    congr 1
    rw [Real.rpow_def_of_pos (by norm_num), L, ← mul_assoc, mul_inv_cancel₀ (Real.log_pos (by norm_num)).ne', one_mul]

theorem L_sub (x m : EReal) : (L : EReal) * x - (L : EReal) * m = (L : EReal) * (x - m) := by
  rw [sub_eq_add_neg, sub_eq_add_neg, EReal.left_distrib_of_nonneg_of_ne_top (by exact_mod_cast L_pos.le) (EReal.coe_ne_top _),
    mul_neg]

theorem L_bot : (L : EReal) * ⊥ = ⊥ := EReal.coe_mul_bot_of_pos L_pos

theorem L_mono : Monotone fun x : EReal => (L : EReal) * x :=
  fun _ _ h => mul_le_mul_of_nonneg_left h (by exact_mod_cast L_pos.le)

/-! ## A prefix of the keys is enough -/

section
variable {n : ℕ} (hn : n ≤ 640)

theorem sum_prefix (f : Fin 640 → EReal) (h : ∀ k : Fin 640, n ≤ (k : ℕ) → f k = 0) :
    ∑ x : Fin n, f (Fin.castLE hn x) = ∑ k, f k := by
  refine Finset.sum_of_injOn (Fin.castLE hn) (Fin.castLE_injective hn).injOn (fun _ _ => Finset.mem_coe.mpr (Finset.mem_univ _)) (fun i _ hi => h i ?_) (fun _ _ => rfl)
  by_contra hlt
  exact hi ⟨⟨i, by omega⟩, by simp, rfl⟩

theorem rowMax_eq {N : ℕ} (s : Fin N → EReal) : rowMax s = Finset.univ.sup s := by rw [rowMax, neg_inf]; rfl

theorem rowMax_prefix (s : Fin 640 → EReal) (h : ∀ k : Fin 640, n ≤ (k : ℕ) → s k = ⊥) :
    rowMax (fun x : Fin n => s (Fin.castLE hn x)) = rowMax s := by
  rw [rowMax_eq, rowMax_eq]
  refine le_antisymm (Finset.sup_le fun x _ => Finset.le_sup (f := s) (Finset.mem_univ _)) (Finset.sup_le fun k _ => ?_)
  by_cases hk : n ≤ (k : ℕ)
  · rw [h k hk]; exact bot_le
  · exact Finset.le_sup (f := fun x : Fin n => s (Fin.castLE hn x)) (Finset.mem_univ (⟨k, by omega⟩ : Fin n))

theorem rowMax_L {N : ℕ} (s : Fin N → EReal) : rowMax (fun x => (L : EReal) * s x) = (L : EReal) * rowMax s := by
  rw [rowMax_eq, rowMax_eq]
  exact (Finset.apply_sup_eq_sup_comp_of_linearOrder _ L_mono L_bot).symm

/-- The kernel's exponentials, of scores that are L times the reference's, are the reference's. -/
theorem kExp_eq (s : Fin n → EReal) (s' : Fin 640 → EReal) (hs : ∀ x, s x = (L : EReal) * s' (Fin.castLE hn x))
    (h : ∀ k : Fin 640, n ≤ (k : ℕ) → s' k = ⊥) (x : Fin n) : kExp s x = rExp s' (Fin.castLE hn x) := by
  obtain rfl : s = fun x => (L : EReal) * s' (Fin.castLE hn x) := funext hs
  rw [kExp, rExp, rowMax_L (fun x => s' (Fin.castLE hn x)), rowMax_prefix hn s' h, L_sub, exp2_mul]

/-- A key that is not seen has weight zero. -/
theorem rExp_bot (s : Fin 640 → EReal) (k : Fin 640) (h : s k = ⊥) : rExp s k = 0 := by
  rw [rExp, h, sub_eq_add_neg, EReal.bot_add]; rfl

theorem sum_kExp_eq (s : Fin n → EReal) (s' : Fin 640 → EReal) (hs : ∀ x, s x = (L : EReal) * s' (Fin.castLE hn x))
    (h : ∀ k : Fin 640, n ≤ (k : ℕ) → s' k = ⊥) : ∑ x, kExp s x = ∑ k, rExp s' k := by
  rw [← sum_prefix hn (rExp s') fun k hk => rExp_bot s' k (h k hk)]
  exact Finset.sum_congr rfl fun x _ => kExp_eq hn s s' hs h x

variable (lam : EReal) (s : Fin 2 → Fin n → EReal) (s' : Fin 2 → Fin 640 → EReal)
  (hs : ∀ c x, s c x = (L : EReal) * s' c (Fin.castLE hn x)) (h : ∀ c, ∀ k : Fin 640, n ≤ (k : ℕ) → s' c k = ⊥)

include hs h in
theorem kAttn_eq (x : Fin n) : kAttn lam s x = rAttn lam s' (Fin.castLE hn x) := by
  rw [kAttn, rAttn, rProb, rProb, kExp_eq hn (s 0) (s' 0) (hs 0) (h 0), kExp_eq hn (s 1) (s' 1) (hs 1) (h 1),
    sum_kExp_eq hn (s 0) (s' 0) (hs 0) (h 0), sum_kExp_eq hn (s 1) (s' 1) (hs 1) (h 1), mul_left_comm]

include h in
theorem rAttn_zero (k : Fin 640) (hk : n ≤ (k : ℕ)) : rAttn lam s' k = 0 := by
  rw [rAttn, rProb, rProb, rExp_bot _ k (h 0 k hk), rExp_bot _ k (h 1 k hk)]
  simp

include hs h in
theorem kMix_eq (v : Fin 640 → Fin 256 → EReal) (vs : Fin 256 → EReal) (j : Fin 256) :
    kMix lam s (fun x => v (Fin.castLE hn x)) vs j = rMix lam s' v vs j := by
  rw [kMix, rMix, ← sum_prefix hn (fun k => v k j * rAttn lam s' k) fun k hk => by
    simp only [rAttn_zero lam s' h k hk, mul_zero]]
  congr 1
  exact Finset.sum_congr rfl fun x _ => by rw [kAttn_eq hn lam s s' hs h, mul_comm]

include hs h in
/-- The two rows are equal when the kernel's scores are L times the reference's and the reference sees no key past the
    kernel's prefix. -/
theorem kRow_eq (v : Fin 640 → Fin 256 → EReal) (vs gain : Fin 256 → EReal) (j : Fin 256) :
    kRow lam s (fun x => v (Fin.castLE hn x)) vs gain j = rRow lam s' v vs gain j := by
  have e : kMix lam s (fun x => v (Fin.castLE hn x)) vs = rMix lam s' v vs := funext (kMix_eq hn lam s s' hs h v vs)
  rw [kRow, rRow, e, ← mul_assoc]

/-- The kernel's score is L times the reference's. -/
theorem kScore_eq (q : Fin 128 → EReal) (k : Fin 640 → Fin 128 → EReal) (qs : EReal) (ks : Fin 640 → EReal)
    (C : EReal) (hC : C = (((11863283 / 134217728) * (Real.log 2)⁻¹ : ℝ) : EReal)) (P : Fin 640 → Prop) [DecidablePred P]
    (x : Fin n) :
    kScore q (fun x => k (Fin.castLE hn x)) qs (fun x => ks (Fin.castLE hn x)) C (fun x => if P (Fin.castLE hn x) then 0 else ⊥) x
      = (L : EReal) * rScore q k qs ks P (Fin.castLE hn x) := by
  rw [kScore, rScore]
  split
  · rw [add_zero, scale_val, hC, EReal.coe_mul]
    show _ * (_ * (_ * (L : EReal))) = _
    ac_rfl
  · rw [EReal.add_bot, L_bot]
end

end Cert.Attn

end
-- ==== Proof.Value.Blocks.lean ====
/- What one query block stores, as one row of plain mathematics: each stored element is the kernel's output row over
   the keys up to the end of its block. -/
module

public import proofs.«01_k».proof.Proof.Body.Out
public import proofs.«01_k».proof.Proof.Value.Spec

@[expose] public section

set_option maxRecDepth 16384

noncomputable section

namespace Cert.KernelIdeal.Value

open Cert.KernelIdeal.Gen Cert.KernelIdeal.Body Cert.Attn
open Idealize.ShloMosaic Idealize.ShloMosaic.TcCoe Idealize.SL.Sem

/-- Output element `j` of query row `r`, over the first `n` keys with bias `b`. -/
def kBlk (n : ℕ) (hn : n ≤ 640) (x0 : FVec Ideal S1x1x2x640x128 .fp8e4m3) (x1 : FVec Ideal S1x1x2x640 .f32) (x2 : FVec Ideal S1x1x2x640x128 .fp8e4m3) (x3 : FVec Ideal S1x1x2x640 .f32)
    (x4 : FVec Ideal S1x1x640x256 .fp8e4m3) (vs : FVec Ideal S1x256 .f32) (x6 x7 x8 x9 : FVec Ideal S1x128 .f32) (x10 : FVec Ideal S1x256 .f32)
    (b : Fin n → EReal) (r : Fin 640) (j : Fin 256) : EReal :=
  kRow (lamV (fun x => x6 (ix2 0 x)) (fun x => x7 (ix2 0 x)) (fun x => x8 (ix2 0 x)) (fun x => x9 (ix2 0 x)))
    (fun c x => kScore (fun d => x0 (ix5 0 0 c r d)) (fun x d => x2 (ix5 0 0 c (Fin.castLE hn x) d)) (x1 (ix4 0 0 c r))
      (fun x => x3 (ix4 0 0 c (Fin.castLE hn x))) (Named.named (F := Ideal) κ "scale_log2e" (φ := .f32) 0x3E0293EE#32) b x)
    (fun x j => x4 (ix4 0 0 (Fin.castLE hn x) j)) (fun j => vs (ix2 0 j)) (fun j => x10 (ix2 0 j)) j

section
variable (i : grid0.Coords) (x0 : Vec Ideal S1x1x2x640x128 .fp8e4m3) (x1 : Vec Ideal S1x1x2x640 .f32) (x2 : Vec Ideal S1x1x2x640x128 .fp8e4m3) (x3 : Vec Ideal S1x1x2x640 .f32)
  (x4 : Vec Ideal S1x1x640x256 .fp8e4m3) (x5 : Vec Ideal S12x256 .f32) (x6 x7 x8 x9 : Vec Ideal S1x128 .f32) (x10 : Vec Ideal S1x256 .f32)
  (z : Fin 1) (r : Fin 128) (j : Fin 256)

set_option maxHeartbeats 2000000 in
theorem outBlk0_at (b : Vec Ideal S128x128 .f32) :
    outBlk0 i x0 x1 x2 x3 x4 x5 x6 x7 x8 x9 x10 b (ix3 z r j)
      = kBlk 128 (by decide) x0 x1 x2 x3 x4 (vsK i x5) x6 x7 x8 x9 x10 (fun x => b (ix2 r x)) ⟨r, by omega⟩ j := by
  pointwise [outBlk0, lamK, gainK, qsK, ksK, ksW, q00, q01, k00, k01, v0, k0_pay25, k0_pay26, k0_pay27, k0_pay28, k0_pay29, k0_pay30, k0_pay31, k0_pay32, k0_pay33, k0_pay34]
  rfl

set_option maxHeartbeats 2000000 in
theorem outBlk1_at (b : Vec Ideal S128x256 .f32) :
    outBlk1 i x0 x1 x2 x3 x4 x5 x6 x7 x8 x9 x10 b (ix3 z r j)
      = kBlk 256 (by decide) x0 x1 x2 x3 x4 (vsK i x5) x6 x7 x8 x9 x10 (fun x => b (ix2 r x)) ⟨128 + r, by omega⟩ j := by
  pointwise [outBlk1, lamK, gainK, qsK, ksK, ksW, q10, q11, k10, k11, v1, k0_pay25, k0_pay26, k0_pay27, k0_pay28, k0_pay35, k0_pay36, k0_pay37, k0_pay38, k0_pay39, k0_pay40]
  rfl

set_option maxHeartbeats 2000000 in
theorem outBlk2_at (b : Vec Ideal S128x384 .f32) :
    outBlk2 i x0 x1 x2 x3 x4 x5 x6 x7 x8 x9 x10 b (ix3 z r j)
      = kBlk 384 (by decide) x0 x1 x2 x3 x4 (vsK i x5) x6 x7 x8 x9 x10 (fun x => b (ix2 r x)) ⟨256 + r, by omega⟩ j := by
  pointwise [outBlk2, lamK, gainK, qsK, ksK, ksW, q20, q21, k20, k21, v2, k0_pay25, k0_pay26, k0_pay27, k0_pay28, k0_pay41, k0_pay42, k0_pay43, k0_pay44, k0_pay45, k0_pay46]
  rfl

set_option maxHeartbeats 2000000 in
theorem outBlk3_at (b : Vec Ideal S128x512 .f32) :
    outBlk3 i x0 x1 x2 x3 x4 x5 x6 x7 x8 x9 x10 b (ix3 z r j)
      = kBlk 512 (by decide) x0 x1 x2 x3 x4 (vsK i x5) x6 x7 x8 x9 x10 (fun x => b (ix2 r x)) ⟨384 + r, by omega⟩ j := by
  pointwise [outBlk3, lamK, gainK, qsK, ksK, ksW, q30, q31, k30, k31, v3, k0_pay25, k0_pay26, k0_pay27, k0_pay28, k0_pay47, k0_pay48, k0_pay49, k0_pay50, k0_pay51]
  rfl

set_option maxHeartbeats 2000000 in
theorem outBlk4_at (b : Vec Ideal S128x640 .f32) :
    outBlk4 i x0 x1 x2 x3 x4 x5 x6 x7 x8 x9 x10 b (ix3 z r j)
      = kBlk 640 (by decide) x0 x1 x2 x3 x4 (vsK i x5) x6 x7 x8 x9 x10 (fun x => b (ix2 r x)) ⟨512 + r, by omega⟩ j := by
  pointwise [outBlk4, lamK, gainK, qsK, ksK, ksW, q40, q41, k40, k41, v4, k0_pay25, k0_pay26, k0_pay27, k0_pay28, k0_pay52, k0_pay53, k0_pay54, k0_pay55, k0_pay1]
  rfl

end

end Cert.KernelIdeal.Value

end
-- ==== Proof.Value.Bias.lean ====
/- What the bias array holds: zero where the query sees the key, −∞ where it does not, on every block on or below the
   diagonal. -/
module

public import proofs.«01_k».proof.Proof.Body.Out
public import proofs.«01_k».proof.Proof.Value.Spec
public import Idealize.ShloMosaic.Lib.Pipeline.ReadBack

@[expose] public section

set_option maxRecDepth 16384

noncomputable section

namespace Cert.KernelIdeal.Value

open Cert.KernelIdeal.Gen Cert.KernelIdeal.Body Cert.Attn
open Idealize.ShloMosaic Idealize.ShloMosaic.TcCoe Idealize.SL.Sem

/-- The segment numbers of the batch, by position. -/
def segOf (x : Vec Ideal S1x1x640 .i32) (k : Fin 640) : BitVec 32 := (show IVec S1x1x640 32 from x) (ix3 0 0 k)

/-- The bias of query `r` and key `k`. -/
def biasAt (x : Vec Ideal S1x1x640 .i32) (r k : Fin 640) : EReal := if Sees (segOf x) r k then 0 else ⊥

/-- The bias array. -/
def biasV (x : Vec Ideal S1x1x640 .i32) (y : S640x640.Idx) : EReal := biasAt x (y 0) (y 1)

/-! ## The segment numbers as a row and as a column -/

theorem pay2_at (x : Vec Ideal S1x1x640 .i32) (z : Fin 1) (k : Fin 640) : k0_pay2 (F := Ideal) (segW x) (ix2 z k) = segOf x k := by
  pointwise [k0_pay2, segW]
  rfl

theorem pay3_at (x : Vec Ideal S1x1x640 .i32) (r : Fin 640) (k : Fin 128) : k0_pay3 (F := Ideal) (segW x) (ix2 r k) = segOf x r := by
  pointwise [k0_pay3]
  split_ifs <;> exact (pay2_at x _ _).trans (congrArg (segOf x) (Fin.ext (by first | rfl | (simp only; omega))))

/-! ## One block -/

theorem inb_block (a b : ℕ) (ha : a + 128 ≤ 640) (hb : b + 128 ≤ 640) (d : Fin S640x640.rank) : (![a, b] : Fin 2 → ℕ) d + S128x128.size d ≤ S640x640.size d :=
  match d with
  | ⟨0, _⟩ => ha
  | ⟨1, _⟩ => hb

/-- Where a stored block of the bias is placed: row and column offset plus index. -/
theorem biasV_emb (x : Vec Ideal S1x1x640 .i32) (a b : ℕ) (inb) (r k : Fin 128) (ha : a + r < 640) (hb : b + k < 640) :
    biasV x ((Rect.unit (s := S640x640) ![a, b] S128x128.size inb).emb (ix2 r k))
      = if Sees (segOf x) ⟨a + r, ha⟩ ⟨b + k, hb⟩ then 0 else ⊥ := by
  have e : (Rect.unit (s := S640x640) ![a, b] S128x128.size inb).emb (ix2 r k) = ix2 (⟨a + r, ha⟩ : Fin 640) (⟨b + k, hb⟩ : Fin 640) := by
    funext d
    refine Fin.ext ((Rect.idx_unit_val _ _ _ _ d).trans ?_)
    match d with
    | ⟨0, _⟩ => rfl
    | ⟨1, _⟩ => rfl
  rw [e]
  rfl

/-- A block on the diagonal. -/
theorem on_diag (x : Vec Ideal S1x1x640 .i32) (a : ℕ) (w : FVec Ideal S128x128 .f32) (ha : a + 128 ≤ 640)
    (hw : ∀ r k : Fin 128, w (ix2 r k) = Scalar.select (IntOp.andi (IntOp.cmpi .eq (segOf x ⟨a + r, by omega⟩) (segOf x ⟨a + k, by omega⟩))
      (IntOp.cmpi .sle (BitVec.ofNat 32 k) (BitVec.ofNat 32 r))) 0 (Ideal.ofBits .f32 0xFF800000#32)) (y : S128x128.Idx) :
    w y = biasV x ((Rect.unit (s := S640x640) ![a, a] S128x128.size (inb_block a a ha ha)).emb y) := by
  idx_vars y
  refine (hw _ _).trans ((sel _ _ _ ?_).trans (biasV_emb x a a _ _ _ (by omega) (by omega)).symm)
  rw [andi_one, cmpi_eq, cmpi_sle _ _ (by omega) (by omega), Sees]
  constructor
  · rintro ⟨h1, h2⟩; exact ⟨by simpa using h2, h1.symm⟩
  · rintro ⟨h1, h2⟩; exact ⟨h2.symm, by simpa using h1⟩

/-- A block below the diagonal. -/
theorem off_diag (x : Vec Ideal S1x1x640 .i32) (a b : ℕ) (w : FVec Ideal S128x128 .f32) (ha : a + 128 ≤ 640) (hb : b + 128 ≤ a)
    (hw : ∀ r k : Fin 128, w (ix2 r k) = Scalar.select (IntOp.cmpi .eq (segOf x ⟨a + r, by omega⟩) (segOf x ⟨b + k, by omega⟩))
      0 (Ideal.ofBits .f32 0xFF800000#32)) (y : S128x128.Idx) :
    w y = biasV x ((Rect.unit (s := S640x640) ![a, b] S128x128.size (inb_block a b ha (by omega))).emb y) := by
  idx_vars y
  refine (hw _ _).trans ((sel _ _ _ ?_).trans (biasV_emb x a b _ _ _ (by omega) (by omega)).symm)
  rw [cmpi_eq, Sees]
  constructor
  · intro h; exact ⟨by simp only; omega, h.symm⟩
  · rintro ⟨_, h⟩; exact h.symm

/-! ## The whole array -/

set_option maxHeartbeats 1000000 in
/-- Every stored block is a block of the bias. -/
theorem bias_pieces (x : Vec Ideal S1x1x640 .i32) : View.PiecesOf (biasV x) (biasL (F := Ideal) x) := by
  refine ⟨on_diag x 512 _ (by decide) fun r k => ?_, off_diag x 512 384 _ (by decide) (by decide) fun r k => ?_,
    off_diag x 512 256 _ (by decide) (by decide) fun r k => ?_, off_diag x 512 128 _ (by decide) (by decide) fun r k => ?_,
    off_diag x 512 0 _ (by decide) (by decide) fun r k => ?_, on_diag x 384 _ (by decide) fun r k => ?_,
    off_diag x 384 256 _ (by decide) (by decide) fun r k => ?_, off_diag x 384 128 _ (by decide) (by decide) fun r k => ?_,
    off_diag x 384 0 _ (by decide) (by decide) fun r k => ?_, on_diag x 256 _ (by decide) fun r k => ?_,
    off_diag x 256 128 _ (by decide) (by decide) fun r k => ?_, off_diag x 256 0 _ (by decide) (by decide) fun r k => ?_,
    on_diag x 128 _ (by decide) fun r k => ?_, off_diag x 128 0 _ (by decide) (by decide) fun r k => ?_,
    on_diag x 0 _ (by decide) fun r k => ?_, trivial⟩
  all_goals
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp only [pay3_at, pay2_at, Nat.zero_add]

/-- The bias array, loaded through a rectangle the stores cover. -/
theorem bias_ld (x : Vec Ideal S1x1x640 .i32) (R : Rect S640x640) (h : ∀ j : R.shape.Idx, ∃ p ∈ biasL (F := Ideal) x, R.toLoadRect.idx j ∈ p.1.set)
    (j : R.shape.Idx) : biasK (F := Ideal) x (R.idx j) = biasV x (R.idx j) :=
  View.canon_apply_of_pieces (Val := Elt Ideal) (S := S640x640) (e := .f32) (biasV x) (biasL x) (bias_pieces x).mem (R.idx j) (h j)

end Cert.KernelIdeal.Value

end
-- ==== Proof.Value.Rows.lean ====
/- What one grid point stores: each element of the output window is the reference's output row of its query, over the
   blocks the body is handed. -/
module

public import proofs.«01_k».proof.Proof.Value.Blocks
public import proofs.«01_k».proof.Proof.Value.Bias

@[expose] public section

set_option maxRecDepth 16384

noncomputable section

namespace Cert.KernelIdeal.Value

open Cert.KernelIdeal.Gen Cert.KernelIdeal.Body Cert.Attn
open Idealize.ShloMosaic Idealize.ShloMosaic.TcCoe Idealize.SL.Sem

/-- The reference's output element `j` of query `r`, over the blocks. -/
def rowV (x0 : FVec Ideal S1x1x2x640x128 .fp8e4m3) (x1 : FVec Ideal S1x1x2x640 .f32) (x2 : FVec Ideal S1x1x2x640x128 .fp8e4m3) (x3 : FVec Ideal S1x1x2x640 .f32)
    (x4 : FVec Ideal S1x1x640x256 .fp8e4m3) (vs : FVec Ideal S1x256 .f32) (x6 x7 x8 x9 : FVec Ideal S1x128 .f32) (x10 : FVec Ideal S1x256 .f32)
    (x11 : IVec S1x1x640 32) (r : Fin 640) (j : Fin 256) : EReal :=
  rRow (lamV (fun x => x6 (ix2 0 x)) (fun x => x7 (ix2 0 x)) (fun x => x8 (ix2 0 x)) (fun x => x9 (ix2 0 x)))
    (fun c => rScore (fun d => x0 (ix5 0 0 c r d)) (fun k d => x2 (ix5 0 0 c k d)) (x1 (ix4 0 0 c r))
      (fun k => x3 (ix4 0 0 c k)) (Sees (fun k => x11 (ix3 0 0 k)) r))
    (fun k j => x4 (ix4 0 0 k j)) (fun j => vs (ix2 0 j)) (fun j => x10 (ix2 0 j)) j

section
variable (i : grid0.Coords) (x0 : Vec Ideal S1x1x2x640x128 .fp8e4m3) (x1 : Vec Ideal S1x1x2x640 .f32) (x2 : Vec Ideal S1x1x2x640x128 .fp8e4m3) (x3 : Vec Ideal S1x1x2x640 .f32)
  (x4 : Vec Ideal S1x1x640x256 .fp8e4m3) (x5 : Vec Ideal S12x256 .f32) (x6 x7 x8 x9 : Vec Ideal S1x128 .f32) (x10 : Vec Ideal S1x256 .f32) (x11 : Vec Ideal S1x1x640 .i32)

/-- A query block's row over its prefix of the keys is the reference's row over all of them: no later key is seen. -/
theorem kBlk_eq (x0 : FVec Ideal S1x1x2x640x128 .fp8e4m3) (x1 : FVec Ideal S1x1x2x640 .f32) (x2 : FVec Ideal S1x1x2x640x128 .fp8e4m3) (x3 : FVec Ideal S1x1x2x640 .f32)
    (x4 : FVec Ideal S1x1x640x256 .fp8e4m3) (x6 x7 x8 x9 : FVec Ideal S1x128 .f32) (x10 : FVec Ideal S1x256 .f32) (x11 : Vec Ideal S1x1x640 .i32)
    (n : ℕ) (hn : n ≤ 640) (vs : FVec Ideal S1x256 .f32) (b : Fin n → EReal) (r : Fin 640) (j : Fin 256) (hr : (r : ℕ) < n)
    (hb : ∀ x, b x = biasAt x11 r (Fin.castLE hn x)) :
    kBlk n hn x0 x1 x2 x3 x4 vs x6 x7 x8 x9 x10 b r j = rowV x0 x1 x2 x3 x4 vs x6 x7 x8 x9 x10 x11 r j := by
  obtain rfl : b = fun x => biasAt x11 r (Fin.castLE hn x) := funext hb
  unfold kBlk rowV
  refine kRow_eq hn _ _ _ (fun c x => ?_) (fun c k hk => ?_) (fun k j => x4 (ix4 0 0 k j)) _ _ _
  · exact kScore_eq hn (fun d => x0 (ix5 0 0 c r d)) (fun k d => x2 (ix5 0 0 c k d)) (x1 (ix4 0 0 c r)) (fun k => x3 (ix4 0 0 c k)) _
      (IdealRules.named_const.ideal_named_scalar _ _ _ _ rfl) (Sees (segOf x11) r) x
  · rw [rScore, if_neg]
    rintro ⟨h, _⟩
    omega

/-- Where a stored block of the output is placed. -/
theorem out_emb (o : ℕ) (inb) (z : Fin 1) (r : Fin 128) (j : Fin 256) (h : o + r < 640) :
    (Rect.unit (s := S1x640x256) ![0, o, 0] S1x128x256.size inb).emb (ix3 z r j) = ix3 z (⟨o + r, h⟩ : Fin 640) j := by
  funext d
  refine Fin.ext ((Rect.idx_unit_val _ _ _ _ d).trans ?_)
  match d with
  | ⟨0, _⟩ => exact Nat.zero_add _
  | ⟨1, _⟩ => rfl
  | ⟨2, _⟩ => exact Nat.zero_add _

/-- Where a query block's bias is read. -/
theorem bias_idx (o n : ℕ) (inb) (r : Fin 128) (x : Fin n) (hr : o + r < 640) (hn : n ≤ 640) :
    (Rect.unit (s := S640x640) ![o, 0] (⟨2, ![128, n]⟩ : Shape).size inb).idx (ix2 r x) = ix2 (⟨o + r, hr⟩ : Fin 640) (Fin.castLE hn x) := by
  funext d
  refine Fin.ext ((Rect.idx_unit_val _ _ _ _ d).trans ?_)
  match d with
  | ⟨0, _⟩ => rfl
  | ⟨1, _⟩ => exact Nat.zero_add _

/-- The output window's contents. -/
def outV (vs : Vec Ideal S1x256 .f32) (y : S1x640x256.Idx) : EReal := rowV x0 x1 x2 x3 x4 vs x6 x7 x8 x9 x10 x11 (y 1) (y 2)

set_option maxHeartbeats 1000000 in
theorem out_pieces (h4 h3 h2 h1 h0 b4 b3 b2 b1 b0) : View.PiecesOf (Val := Elt Ideal) (s := S1x640x256) (e := .bf16) (outV x0 x1 x2 x3 x4 x6 x7 x8 x9 x10 x11 (vsK i x5))
    [⟨Rect.unit (s := S1x640x256) ![0, 512, 0] S1x128x256.size h4, outBlk4 i x0 x1 x2 x3 x4 x5 x6 x7 x8 x9 x10 (View.ld (biasK x11) (Rect.unit (s := S640x640) ![512, 0] S128x640.size b4))⟩,
    ⟨Rect.unit (s := S1x640x256) ![0, 384, 0] S1x128x256.size h3, outBlk3 i x0 x1 x2 x3 x4 x5 x6 x7 x8 x9 x10 (View.ld (biasK x11) (Rect.unit (s := S640x640) ![384, 0] S128x512.size b3))⟩,
    ⟨Rect.unit (s := S1x640x256) ![0, 256, 0] S1x128x256.size h2, outBlk2 i x0 x1 x2 x3 x4 x5 x6 x7 x8 x9 x10 (View.ld (biasK x11) (Rect.unit (s := S640x640) ![256, 0] S128x384.size b2))⟩,
    ⟨Rect.unit (s := S1x640x256) ![0, 128, 0] S1x128x256.size h1, outBlk1 i x0 x1 x2 x3 x4 x5 x6 x7 x8 x9 x10 (View.ld (biasK x11) (Rect.unit (s := S640x640) ![128, 0] S128x256.size b1))⟩,
    ⟨Rect.unit (s := S1x640x256) ![0, 0, 0] S1x128x256.size h0, outBlk0 i x0 x1 x2 x3 x4 x5 x6 x7 x8 x9 x10 (View.ld (biasK x11) (Rect.unit (s := S640x640) ![0, 0] S128x128.size b0))⟩] := by
  have key : ∀ (o n : ℕ) (hn : n ≤ 640) (ho : o + 128 = n) (inb) (binb) (w : FVec Ideal S1x128x256 .bf16)
      (hw : ∀ z r j, w (ix3 z r j) = kBlk n hn x0 x1 x2 x3 x4 (vsK i x5) x6 x7 x8 x9 x10
        (fun x => biasK (F := Ideal) x11 ((Rect.unit (s := S640x640) ![o, 0] (⟨2, ![128, n]⟩ : Shape).size binb).idx (ix2 r x))) ⟨o + r, by omega⟩ j)
      (hc : ∀ y, ∃ p ∈ biasL (F := Ideal) x11, (Rect.unit (s := S640x640) ![o, 0] (⟨2, ![128, n]⟩ : Shape).size binb).toLoadRect.idx y ∈ p.1.set)
      (y : S1x128x256.Idx), w y = outV x0 x1 x2 x3 x4 x6 x7 x8 x9 x10 x11 (vsK i x5) ((Rect.unit (s := S1x640x256) ![0, o, 0] S1x128x256.size inb).emb y) := by
    intro o n hn ho inb binb w hw hc y
    idx_vars y
    rw [hw, out_emb _ _ _ _ _ (by omega)]
    refine kBlk_eq x0 x1 x2 x3 x4 x6 x7 x8 x9 x10 x11 n hn _ _ _ _ (by simp only; omega) fun x => ?_
    rw [bias_ld x11 _ hc, bias_idx _ _ _ _ _ (by omega) hn]
    rfl
  refine ⟨key 512 640 (by decide) rfl h4 b4 _ (fun z r j => ?_) ?_, key 384 512 (by decide) rfl h3 b3 _ (fun z r j => ?_) ?_,
    key 256 384 (by decide) rfl h2 b2 _ (fun z r j => ?_) ?_, key 128 256 (by decide) rfl h1 b1 _ (fun z r j => ?_) ?_,
    key 0 128 (by decide) rfl h0 b0 _ (fun z r j => ?_) ?_, trivial⟩
  · exact outBlk4_at i x0 x1 x2 x3 x4 x5 x6 x7 x8 x9 x10 z r j _
  · exact LoadRect.cover_of_covChk _ _ (.split 1 128 (.leaf 4) (.split 1 128 (.leaf 3) (.split 1 128 (.leaf 2) (.split 1 128 (.leaf 1) (.leaf 0))))) (by rfl)
  · exact outBlk3_at i x0 x1 x2 x3 x4 x5 x6 x7 x8 x9 x10 z r j _
  · exact LoadRect.cover_of_covChk _ _ (.split 1 128 (.leaf 8) (.split 1 128 (.leaf 7) (.split 1 128 (.leaf 6) (.leaf 5)))) (by rfl)
  · exact outBlk2_at i x0 x1 x2 x3 x4 x5 x6 x7 x8 x9 x10 z r j _
  · exact LoadRect.cover_of_covChk _ _ (.split 1 128 (.leaf 11) (.split 1 128 (.leaf 10) (.leaf 9))) (by rfl)
  · exact outBlk1_at i x0 x1 x2 x3 x4 x5 x6 x7 x8 x9 x10 z r j _
  · exact LoadRect.cover_of_covChk _ _ (.split 1 128 (.leaf 13) (.leaf 12)) (by rfl)
  · refine (outBlk0_at i x0 x1 x2 x3 x4 x5 x6 x7 x8 x9 x10 z r j _).trans ?_
    exact congrArg (fun q : Fin 640 => kBlk 128 _ x0 x1 x2 x3 x4 (vsK i x5) x6 x7 x8 x9 x10 _ q j) (Fin.ext (Nat.zero_add _).symm)
  · exact LoadRect.cover_of_covChk _ _ (.leaf 14) (by rfl)

/-- One grid point's output window, element by element. -/
theorem outK_at (y : S1x640x256.Idx) :
    outK i x0 x1 x2 x3 x4 x5 x6 x7 x8 x9 x10 (biasK (F := Ideal) x11) y = outV x0 x1 x2 x3 x4 x6 x7 x8 x9 x10 x11 (vsK i x5) y :=
  View.canon_apply_of_pieces (Val := Elt Ideal) (S := S1x640x256) (e := .bf16) _ _
    (out_pieces i x0 x1 x2 x3 x4 x5 x6 x7 x8 x9 x10 x11 _ _ _ _ _ _ _ _ _ _).mem y (outCover _ _ _ _ _ y)

end

end Cert.KernelIdeal.Value

end
-- ==== Proof.Value.Reads.lean ====
/- Each block the body is handed, read at an index, as an element of an argument array. -/
module

public import proofs.«01_k».proof.Proof.Body.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Cert.KernelIdeal.Gen Cert.KernelIdeal.Body
open Idealize.ShloMosaic Idealize.ShloMosaic.TcCoe Idealize.SL.Sem

variable (m : (ℓ : Loc nD τ sig) → Buf (Elt Ideal) ℓ) (c : Dev nD) (t : Fin cfg0.N)

/-- Where every window's block stands: batch `t / 12`, head `t % 12`. -/
theorem idx : ∀ t : Fin cfg0.N, win0_0.index t = ![t.val / 12, t.val % 12, 0, 0, 0] ∧ win0_1.index t = ![t.val / 12, t.val % 12, 0, 0] ∧
    win0_2.index t = ![t.val / 12, t.val % 12, 0, 0, 0] ∧ win0_3.index t = ![t.val / 12, t.val % 12, 0, 0] ∧
    win0_4.index t = ![t.val / 12, t.val % 12, 0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![t.val / 12, 0, 0] ∧
    win0_12.index t = ![t.val / 12, 0, t.val % 12] ∧ t.val / 12 < 3 ∧ ((grid0.coords t) 1).val = t.val % 12 :=
  (by decide +kernel : ∀ t : Fin grid0.N, _)

/-- The row of the value scales the body reads: the head's. -/
theorem off : ∀ t : Fin cfg0.N, k0_off1 (grid0.coords t) = ![t.val % 12, 0] := (by decide +kernel : ∀ t : Fin grid0.N, _)

section
variable (b : Fin 3) (h : Fin 12) (hb : (b : ℕ) = t.val / 12) (hh : (h : ℕ) = t.val % 12)
include hb hh

theorem q_read (k : Fin 2) (r : Fin 640) (d : Fin 128) :
    (show FVec Ideal S1x1x2x640x128 .fp8e4m3 from iblk m c 0 t) (ix5 0 0 k r d) = (show FVec Ideal S3x640x12x2x128 .fp8e4m3 from m ((c : Thread nD τ).loc main_arg0)) (ix5 b r h k d) := by
  blk_simp [iblk, idx t]
  entry_read
  pointwise
  blk_ext [idx t]

theorem qs_read (k : Fin 2) (r : Fin 640) :
    (show FVec Ideal S1x1x2x640 .f32 from iblk m c 1 t) (ix4 0 0 k r) = (show FVec Ideal S3x640x12x2 .f32 from m ((c : Thread nD τ).loc main_arg1)) (ix4 b r h k) := by
  blk_simp [iblk, idx t]
  entry_read
  pointwise
  blk_ext [idx t]

theorem k_read (k : Fin 2) (r : Fin 640) (d : Fin 128) :
    (show FVec Ideal S1x1x2x640x128 .fp8e4m3 from iblk m c 2 t) (ix5 0 0 k r d) = (show FVec Ideal S3x640x12x2x128 .fp8e4m3 from m ((c : Thread nD τ).loc main_arg2)) (ix5 b r h k d) := by
  blk_simp [iblk, idx t]
  entry_read
  pointwise
  blk_ext [idx t]

theorem ks_read (k : Fin 2) (r : Fin 640) :
    (show FVec Ideal S1x1x2x640 .f32 from iblk m c 3 t) (ix4 0 0 k r) = (show FVec Ideal S3x640x12x2 .f32 from m ((c : Thread nD τ).loc main_arg3)) (ix4 b r h k) := by
  blk_simp [iblk, idx t]
  entry_read
  pointwise
  blk_ext [idx t]

theorem v_read (r : Fin 640) (j : Fin 256) :
    (show FVec Ideal S1x1x640x256 .fp8e4m3 from iblk m c 4 t) (ix4 0 0 r j) = (show FVec Ideal S3x640x12x256 .fp8e4m3 from m ((c : Thread nD τ).loc main_arg4)) (ix4 b r h j) := by
  blk_simp [iblk, idx t]
  entry_read
  pointwise
  blk_ext [idx t]

theorem vs_read (j : Fin 256) :
    vsK (F := Ideal) (grid0.coords t) (iblk m c 5 t) (ix2 0 j) = (show FVec Ideal S12x256 .f32 from m ((c : Thread nD τ).loc main_arg5)) (ix2 h j) := by
  unfold vsK
  pointwise
  blk_ext [iblk, V, idx t]
  · rw [off t, hh]; rfl
  · rw [off t]; exact Nat.zero_add _

theorem seg_read (r : Fin 640) :
    (show IVec S1x1x640 32 from iblk m c 11 t) (ix3 0 0 r) = (show IVec S3x640 32 from m ((c : Thread nD τ).loc main_arg11)) (ix2 b r) := by
  blk_simp [iblk, idx t]
  entry_read
  pointwise
  blk_ext [idx t]

end

theorem w6_read (d : Fin 128) :
    (show FVec Ideal S1x128 .f32 from iblk m c 6 t) (ix2 0 d) = (show FVec Ideal S128 .f32 from m ((c : Thread nD τ).loc main_arg6)) (ix1 d) := by
  blk_simp [iblk, idx t]
  entry_read
  pointwise
  blk_ext [idx t]

theorem w7_read (d : Fin 128) :
    (show FVec Ideal S1x128 .f32 from iblk m c 7 t) (ix2 0 d) = (show FVec Ideal S128 .f32 from m ((c : Thread nD τ).loc main_arg7)) (ix1 d) := by
  blk_simp [iblk, idx t]
  entry_read
  pointwise
  blk_ext [idx t]

theorem w8_read (d : Fin 128) :
    (show FVec Ideal S1x128 .f32 from iblk m c 8 t) (ix2 0 d) = (show FVec Ideal S128 .f32 from m ((c : Thread nD τ).loc main_arg8)) (ix1 d) := by
  blk_simp [iblk, idx t]
  entry_read
  pointwise
  blk_ext [idx t]

theorem w9_read (d : Fin 128) :
    (show FVec Ideal S1x128 .f32 from iblk m c 9 t) (ix2 0 d) = (show FVec Ideal S128 .f32 from m ((c : Thread nD τ).loc main_arg9)) (ix1 d) := by
  blk_simp [iblk, idx t]
  entry_read
  pointwise
  blk_ext [idx t]

theorem gain_read (j : Fin 256) :
    (show FVec Ideal S1x256 .f32 from iblk m c 10 t) (ix2 0 j) = (show FVec Ideal S256 .f32 from m ((c : Thread nD τ).loc main_arg10)) (ix1 j) := by
  blk_simp [iblk, idx t]
  entry_read
  pointwise
  blk_ext [idx t]

end Cert.KernelIdeal.Value

end
-- ==== Proof.Value.Final.lean ====
/- What the result array holds after the run: the whole result, over the argument arrays. -/
module

public import proofs.«01_k».proof.Proof.Value.Rows
public import proofs.«01_k».proof.Proof.Value.Reads

@[expose] public section

set_option maxRecDepth 16384

noncomputable section

namespace Cert.KernelIdeal.Value

open Cert.KernelIdeal.Gen Cert.KernelIdeal.Body Cert.Attn
open Idealize.ShloMosaic Idealize.ShloMosaic.TcCoe Idealize.SL.Sem

/-- The whole result, over arrays. -/
def result (a0 : FVec Ideal S3x640x12x2x128 .fp8e4m3) (a1 : FVec Ideal S3x640x12x2 .f32) (a2 : FVec Ideal S3x640x12x2x128 .fp8e4m3) (a3 : FVec Ideal S3x640x12x2 .f32)
    (a4 : FVec Ideal S3x640x12x256 .fp8e4m3) (a5 : FVec Ideal S12x256 .f32) (a6 a7 a8 a9 : FVec Ideal S128 .f32) (a10 : FVec Ideal S256 .f32) (a11 : IVec S3x640 32)
    (b : Fin 3) (r : Fin 640) (h : Fin 12) (j : Fin 256) : EReal :=
  out (fun b r h k d => a0 (ix5 b r h k d)) (fun b r h k d => a2 (ix5 b r h k d)) (fun b r h k => a1 (ix4 b r h k)) (fun b r h k => a3 (ix4 b r h k))
    (fun b r h j => a4 (ix4 b r h j)) (fun h j => a5 (ix2 h j)) (fun d => a6 (ix1 d)) (fun d => a7 (ix1 d)) (fun d => a8 (ix1 d)) (fun d => a9 (ix1 d))
    (fun j => a10 (ix1 j)) (fun b r => a11 (ix2 b r)) b r h j

/-- The row over the blocks is the row over the arrays, when the blocks are read from the arrays. -/
theorem rowV_eq (a0 : FVec Ideal S3x640x12x2x128 .fp8e4m3) (a1 : FVec Ideal S3x640x12x2 .f32) (a2 : FVec Ideal S3x640x12x2x128 .fp8e4m3) (a3 : FVec Ideal S3x640x12x2 .f32)
    (a4 : FVec Ideal S3x640x12x256 .fp8e4m3) (a5 : FVec Ideal S12x256 .f32) (a6 a7 a8 a9 : FVec Ideal S128 .f32) (a10 : FVec Ideal S256 .f32) (a11 : IVec S3x640 32)
    (x0 : FVec Ideal S1x1x2x640x128 .fp8e4m3) (x1 : FVec Ideal S1x1x2x640 .f32) (x2 : FVec Ideal S1x1x2x640x128 .fp8e4m3) (x3 : FVec Ideal S1x1x2x640 .f32)
    (x4 : FVec Ideal S1x1x640x256 .fp8e4m3) (vs : FVec Ideal S1x256 .f32) (x6 x7 x8 x9 : FVec Ideal S1x128 .f32) (x10 : FVec Ideal S1x256 .f32)
    (x11 : IVec S1x1x640 32) (b : Fin 3) (h : Fin 12)
    (h0 : ∀ k r d, x0 (ix5 0 0 k r d) = a0 (ix5 b r h k d)) (h1 : ∀ k r, x1 (ix4 0 0 k r) = a1 (ix4 b r h k))
    (h2 : ∀ k r d, x2 (ix5 0 0 k r d) = a2 (ix5 b r h k d)) (h3 : ∀ k r, x3 (ix4 0 0 k r) = a3 (ix4 b r h k))
    (h4 : ∀ r j, x4 (ix4 0 0 r j) = a4 (ix4 b r h j)) (h5 : ∀ j, vs (ix2 0 j) = a5 (ix2 h j))
    (h6 : ∀ d, x6 (ix2 0 d) = a6 (ix1 d)) (h7 : ∀ d, x7 (ix2 0 d) = a7 (ix1 d)) (h8 : ∀ d, x8 (ix2 0 d) = a8 (ix1 d)) (h9 : ∀ d, x9 (ix2 0 d) = a9 (ix1 d))
    (h10 : ∀ j, x10 (ix2 0 j) = a10 (ix1 j)) (h11 : ∀ r, x11 (ix3 0 0 r) = a11 (ix2 b r)) (r : Fin 640) (j : Fin 256) :
    rowV x0 x1 x2 x3 x4 vs x6 x7 x8 x9 x10 x11 r j = result a0 a1 a2 a3 a4 a5 a6 a7 a8 a9 a10 a11 b r h j := by
  have e : (fun k => x11 (ix3 0 0 k)) = fun k => a11 (ix2 b k) := funext h11
  unfold rowV result out
  rw [e]
  simp only [h0, h1, h2, h3, h4, h5, h6, h7, h8, h9, h10]

variable (m : (ℓ : Loc nD τ sig) → Buf (Elt Ideal) ℓ)

/-- Element `l` of a result row is element `l % 256` of head `l / 256`. -/
theorem final (c : Dev nD) : (dats m 0 c).arrAt 12 (cfgs 0).N = fun y : S3x640x3072.Idx =>
    result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (y 0) (y 1) (⟨(y 2).val / 256, Nat.div_lt_of_lt_mul (y 2).isLt⟩ : Fin 12) (⟨(y 2).val % 256, Nat.mod_lt _ (by decide)⟩ : Fin 256) := by
  refine (dats m 0 c).arrAt_eq_of_covers 12 _ (by decide +kernel) fun t _ y => ?_
  blk_simp
  rw [after0_12]
  refine (outK_at _ _ _ _ _ _ _ _ _ _ _ _ _ _).trans ?_
  unfold outV
  obtain ⟨b, hb⟩ : ∃ b : Fin 3, (b : ℕ) = t.val / 12 := ⟨⟨_, (idx t).2.2.2.2.2.2.2.2.2.2.2.2.2.1⟩, rfl⟩
  obtain ⟨h, hh⟩ : ∃ h : Fin 12, (h : ℕ) = t.val % 12 := ⟨⟨_, Nat.mod_lt _ (by decide)⟩, rfl⟩
  refine (rowV_eq _ _ _ _ _ _ _ _ _ _ _ _ _ _ _ _ _ _ _ _ _ _ _ _ b h
    (q_read m c t b h hb hh) (qs_read m c t b h hb hh) (k_read m c t b h hb hh) (ks_read m c t b h hb hh) (v_read m c t b h hb hh)
    (vs_read m c t b h hb hh) (w6_read m c t) (w7_read m c t) (w8_read m c t) (w9_read m c t) (gain_read m c t) (seg_read m c t b h hb hh) _ _).trans ?_
  have hz : (y 0).val < 1 := (y 0).isLt
  have hj : (y 2).val < 256 := (y 2).isLt
  congr 1
  all_goals refine Fin.ext ?_
  all_goals blk_simp [idx t]
  · exact hb
  · exact hh.trans (by omega : _ = (t.val % 12 * 256 + (y 2).val) / 256)
  · exact (by omega : (y 2).val = (t.val % 12 * 256 + (y 2).val) % 256)

end Cert.KernelIdeal.Value

end
-- ==== Proof.Ref.Stages.lean ====
/- The reference's host operations in stages, each a function of whole arrays, and each stage read at one index. -/
module

public import proofs.«01_k».proof.Proof.Gen.ReferenceIdeal.Frame
public import Idealize.ShloMosaic.Lib.Claim
public import Idealize.ShloMosaic.Lib.Pointwise
public import proofs.«01_k».proof.Proof.Value.Spec

@[expose] public section

set_option maxRecDepth 16384

noncomputable section

namespace Cert.ReferenceIdeal.Ref

open Cert.ReferenceIdeal.Gen Cert.Attn
open Idealize.ShloMosaic Idealize.ShloMosaic.TcCoe Idealize.SL.Sem

/-! ## The stages -/

/-- The mixing weight λ. -/
def lamR (a6 a7 a8 a9 : FVec Ideal S128 .f32) : FVec Ideal S_ .f32 :=
  addf (subf (Host.exp (Host.reduceAdd (mulf a6 a7) (constant S_ .f32 0x00000000#32) reducesTo_S128_S_d0 h_S_))
    (Host.exp (Host.reduceAdd (mulf a8 a9) (constant S_ .f32 0x00000000#32) reducesTo_S128_S_d0 h_S_)))
    (constant S_ .f32 0x3F2A86F7#32)

/-- The scaled scores of every query against every key. -/
def scoresR (q k : FVec Ideal S3x640x12x2x128 .f32) (qs ks : FVec Ideal S3x640x12x2 .f32) : FVec Ideal S3x12x2x640x640 .f32 :=
  mulf (mulf (mulf (Host.dotGeneral dot_S3x640x12x2x128_S3x640x12x2x128_S3x12x2x640x640_4_4_1_1_023_023 none q k)
      (broadcastInDim S3x12x2x640x640 ![0, 1, 2, 3, 4] bcast_S3x12x2x640x1_S3x12x2x640x640_0_1_2_3_4
        (broadcastInDim S3x12x2x640x1 ![0, 1, 2, 3] bcast_S3x12x2x640_S3x12x2x640x1_0_1_2_3
          (transpose S3x12x2x640 [0, 2, 3, 1] qs transposes_S3x640x12x2_S3x12x2x640_0_2_3_1))))
    (broadcastInDim S3x12x2x640x640 ![0, 1, 2, 3, 4] bcast_S3x12x2x1x640_S3x12x2x640x640_0_1_2_3_4
      (broadcastInDim S3x12x2x1x640 ![0, 1, 2, 4] bcast_S3x12x2x640_S3x12x2x1x640_0_1_2_4
        (transpose S3x12x2x640 [0, 2, 3, 1] ks transposes_S3x640x12x2_S3x12x2x640_0_2_3_1))))
    (broadcastInDim S3x12x2x640x640 ![] bcast_S_S3x12x2x640x640 (constant S_ .f32 0x3DB504F3#32))

/-- Which keys each query sees: none after itself, none of another segment. -/
def visR (a11 : IVec S3x640 32) : IVec S3x1x1x640x640 1 :=
  broadcastInDim S3x1x1x640x640 ![0, 3, 4] bcast_S3x640x640_S3x1x1x640x640_0_3_4
    (andi
      (broadcastInDim S3x640x640 ![0, 1, 2] bcast_S1x640x640_S3x640x640_0_1_2
        (cmpi .sle
          (broadcastInDim S1x640x640 ![0, 1, 2] bcast_S1x1x640_S1x640x640_0_1_2
            (broadcastInDim S1x1x640 ![2] bcast_S640_S1x1x640_2 (iotaInDim S640 32 0)))
          (broadcastInDim S1x640x640 ![0, 1, 2] bcast_S1x640x1_S1x640x640_0_1_2
            (broadcastInDim S1x640x1 ![1] bcast_S640_S1x640x1_1 (iotaInDim S640 32 0)))))
      (cmpi .eq
        (broadcastInDim S3x640x640 ![0, 1, 2] bcast_S3x1x640_S3x640x640_0_1_2
          (broadcastInDim S3x1x640 ![0, 2] bcast_S3x640_S3x1x640_0_2 a11))
        (broadcastInDim S3x640x640 ![0, 1, 2] bcast_S3x640x1_S3x640x640_0_1_2
          (broadcastInDim S3x640x1 ![0, 1] bcast_S3x640_S3x640x1_0_1 a11))))

/-- The scores, −∞ where the key is not seen. -/
def maskedR (v : IVec S3x1x1x640x640 1) (s : FVec Ideal S3x12x2x640x640 .f32) : FVec Ideal S3x12x2x640x640 .f32 :=
  select (broadcastInDim S3x12x2x640x640 ![0, 1, 2, 3, 4] bcast_S3x1x1x640x640_S3x12x2x640x640_0_1_2_3_4 v) s
    (broadcastInDim S3x12x2x640x640 ![] bcast_S_S3x12x2x640x640 (constant S_ .f32 0xFF800000#32))

/-- The exponentials of the scores less their row's maximum. -/
def expR (s : FVec Ideal S3x12x2x640x640 .f32) : FVec Ideal S3x12x2x640x640 .f32 :=
  Host.exp (subf s (broadcastInDim S3x12x2x640x640 ![0, 1, 2, 3, 4] bcast_S3x12x2x640x1_S3x12x2x640x640_0_1_2_3_4
    (broadcastInDim S3x12x2x640x1 ![0, 1, 2, 3] bcast_S3x12x2x640_S3x12x2x640x1_0_1_2_3
      (Host.reduce FloatOps.maximumf s (constant S_ .f32 0xFF800000#32) reducesTo_S3x12x2x640x640_S3x12x2x640_d4 h_S_))))

/-- The probabilities: the exponentials times the reciprocal of their row's sum. -/
def probR (e : FVec Ideal S3x12x2x640x640 .f32) : FVec Ideal S3x12x2x640x640 .f32 :=
  mulf e (broadcastInDim S3x12x2x640x640 ![0, 1, 2, 3, 4] bcast_S3x12x2x640x1_S3x12x2x640x640_0_1_2_3_4
    (Host.divf (broadcastInDim S3x12x2x640x1 ![] bcast_S_S3x12x2x640x1 (constant S_ .f32 0x3F800000#32))
      (broadcastInDim S3x12x2x640x1 ![0, 1, 2, 3] bcast_S3x12x2x640_S3x12x2x640x1_0_1_2_3
        (Host.reduceAdd e (constant S_ .f32 0x00000000#32) reducesTo_S3x12x2x640x640_S3x12x2x640_d4 h_S_))))

/-- The attention weights: the first component's probabilities less λ times the second's. -/
def attnR (lam : FVec Ideal S_ .f32) (p : FVec Ideal S3x12x2x640x640 .f32) : FVec Ideal S3x12x640x640 .bf16 :=
  truncf .bf16 (subf
    (shapeCast S3x12x640x640 (extractStridedSlice S3x12x1x640x640 ![0, 0, 0, 0, 0] p slices_S3x12x2x640x640_S3x12x1x640x640_0_0_0_0_0) shapeCasts_S3x12x1x640x640_S3x12x640x640)
    (mulf (broadcastInDim S3x12x640x640 ![] bcast_S_S3x12x640x640 lam)
      (shapeCast S3x12x640x640 (extractStridedSlice S3x12x1x640x640 ![0, 0, 1, 0, 0] p slices_S3x12x2x640x640_S3x12x1x640x640_0_0_1_0_0) shapeCasts_S3x12x1x640x640_S3x12x640x640)))
    bitsLt_bf16_f32

/-- The weighted sums of the values, times the value scales. -/
def mixR (v : FVec Ideal S3x640x12x256 .bf16) (a5 : FVec Ideal S12x256 .f32) (a : FVec Ideal S3x12x640x640 .bf16) : FVec Ideal S3x640x12x256 .f32 :=
  mulf (transpose S3x640x12x256 [0, 3, 1, 2]
      (Host.dotGeneral dot_S3x640x12x256_S3x12x640x640_S3x12x256x640_1_3_3_2_02_01 none v a) transposes_S3x12x256x640_S3x640x12x256_0_3_1_2)
    (broadcastInDim S3x640x12x256 ![0, 1, 2, 3] bcast_S1x1x12x256_S3x640x12x256_0_1_2_3
      (broadcastInDim S1x1x12x256 ![2, 3] bcast_S12x256_S1x1x12x256_2_3 a5))

/-- The normalization of each head's row, the gain and the last scale. -/
def normR (a10 : FVec Ideal S256 .f32) (o : FVec Ideal S3x640x12x256 .f32) : FVec Ideal S3x640x3072 .bf16 :=
  shapeCast S3x640x3072 (truncf .bf16
    (mulf (mulf (mulf o
      (broadcastInDim S3x640x12x256 ![0, 1, 2, 3] bcast_S3x640x12x1_S3x640x12x256_0_1_2_3
        (Host.rsqrt (addf
          (Host.divf
            (broadcastInDim S3x640x12x1 ![0, 1, 2] bcast_S3x640x12_S3x640x12x1_0_1_2
              (Host.reduceAdd (mulf o o) (constant S_ .f32 0x00000000#32) reducesTo_S3x640x12x256_S3x640x12_d3 h_S_))
            (broadcastInDim S3x640x12x1 ![] bcast_S_S3x640x12x1 (constant S_ .f32 0x43800000#32)))
          (broadcastInDim S3x640x12x1 ![] bcast_S_S3x640x12x1 (constant S_ .f32 0x3727C5AC#32))))))
      (broadcastInDim S3x640x12x256 ![0, 1, 2, 3] bcast_S1x1x1x256_S3x640x12x256_0_1_2_3
        (broadcastInDim S1x1x1x256 ![3] bcast_S256_S1x1x1x256_3 a10)))
      (broadcastInDim S3x640x12x256 ![] bcast_S_S3x640x12x256 (constant S_ .f32 0x3EAAF212#32))) bitsLt_bf16_f32)
    shapeCasts_S3x640x12x256_S3x640x3072

/-- The whole computation, from the widened codes. -/
def refR (q k : FVec Ideal S3x640x12x2x128 .f32) (v : FVec Ideal S3x640x12x256 .bf16) (a1 a3 : FVec Ideal S3x640x12x2 .f32) (a5 : FVec Ideal S12x256 .f32)
    (a6 a7 a8 a9 : FVec Ideal S128 .f32) (a10 : FVec Ideal S256 .f32) (a11 : IVec S3x640 32) : FVec Ideal S3x640x3072 .bf16 :=
  normR a10 (mixR v a5 (attnR (lamR a6 a7 a8 a9) (probR (expR (maskedR (visR a11) (scoresR q k a1 a3))))))

/-! ## The stages at an index -/

section
variable (b : Fin 3) (h : Fin 12) (c : Fin 2) (r y : Fin 640) (j : Fin 256)

theorem lamR_at (a6 a7 a8 a9 : FVec Ideal S128 .f32) :
    lamR a6 a7 a8 a9 ix0 = lamV (fun d => a6 (ix1 d)) (fun d => a7 (ix1 d)) (fun d => a8 (ix1 d)) (fun d => a9 (ix1 d)) := by
  pointwise [lamR]
  rfl

theorem maskedR_at (q k : FVec Ideal S3x640x12x2x128 .f32) (qs ks : FVec Ideal S3x640x12x2 .f32) (a11 : IVec S3x640 32) :
    maskedR (visR a11) (scoresR q k qs ks) (ix5 b h c r y)
      = rScore (fun d => q (ix5 b r h c d)) (fun y d => k (ix5 b y h c d)) (qs (ix4 b r h c)) (fun y => ks (ix4 b y h c))
          (Sees (fun y => a11 (ix2 b y)) r) y := by
  pointwise [maskedR, visR, scoresR]
  exact sel _ _ _ ((andi_one _ _).trans (and_congr (cmpi_sle _ _ y.isLt r.isLt) (cmpi_eq _ _)))

theorem probR_at (s : FVec Ideal S3x12x2x640x640 .f32) : probR (expR s) (ix5 b h c r y) = rProb (fun y => s (ix5 b h c r y)) y := by
  pointwise [probR, expR]
  rfl

theorem attnR_at (lam : FVec Ideal S_ .f32) (s : FVec Ideal S3x12x2x640x640 .f32) :
    attnR lam (probR (expR s)) (ix4 b h r y) = rAttn (lam ix0) (fun c y => s (ix5 b h c r y)) y := by
  pointwise [attnR]
  rw [probR_at, probR_at]
  rfl

theorem mixR_at (v : FVec Ideal S3x640x12x256 .bf16) (a5 : FVec Ideal S12x256 .f32) (lam : FVec Ideal S_ .f32) (s : FVec Ideal S3x12x2x640x640 .f32) :
    mixR v a5 (attnR lam (probR (expR s))) (ix4 b r h j)
      = rMix (lam ix0) (fun c y => s (ix5 b h c r y)) (fun y j => v (ix4 b y h j)) (fun j => a5 (ix2 h j)) j := by
  pointwise [mixR]
  simp only [attnR_at]
  rfl

end

/-- The whole computation at an index. -/
theorem refR_at (q k : FVec Ideal S3x640x12x2x128 .f32) (v : FVec Ideal S3x640x12x256 .bf16) (a1 a3 : FVec Ideal S3x640x12x2 .f32) (a5 : FVec Ideal S12x256 .f32)
    (a6 a7 a8 a9 : FVec Ideal S128 .f32) (a10 : FVec Ideal S256 .f32) (a11 : IVec S3x640 32) (b : Fin 3) (r : Fin 640) (l : Fin 3072) :
    refR q k v a1 a3 a5 a6 a7 a8 a9 a10 a11 (ix3 b r l)
      = out (fun b r h k d => q (ix5 b r h k d)) (fun b r h c d => k (ix5 b r h c d)) (fun b r h k => a1 (ix4 b r h k)) (fun b r h k => a3 (ix4 b r h k))
          (fun b r h j => v (ix4 b r h j)) (fun h j => a5 (ix2 h j)) (fun d => a6 (ix1 d)) (fun d => a7 (ix1 d)) (fun d => a8 (ix1 d)) (fun d => a9 (ix1 d))
          (fun j => a10 (ix1 j)) (fun b r => a11 (ix2 b r)) b r ⟨l.val / 256, by omega⟩ ⟨l.val % 256, by omega⟩ := by
  unfold refR
  pointwise [normR]
  simp only [mixR_at, maskedR_at, lamR_at]
  rfl

end Cert.ReferenceIdeal.Ref

end
-- ==== Proof.Ref.Run.lean ====
/- What the reference's host program leaves in its result: the stages, over the widened codes and the argument arrays. -/
module

public import proofs.«01_k».proof.Proof.Ref.Stages
public import Idealize.ShloMosaic.Lib.Pipeline.ValueKit

@[expose] public section

set_option maxRecDepth 16384

noncomputable section

namespace Cert.ReferenceIdeal.Ref

open Cert.ReferenceIdeal.Gen Cert.Attn
open Idealize.ShloMosaic Idealize.ShloMosaic.TcCoe Idealize.SL.Sem

variable (m : (ℓ : Loc nD τ sig) → Buf (Elt Ideal) ℓ) (c : Dev nD)

/-- A buffer's contents when the widening call has returned. -/
abbrev mid (b : Ref sig .tc) : Buf (Elt Ideal) ((c : Thread nD τ).loc b) :=
  Pipeline.withArrays (cfgs 0).spec c (V0 m c) (fun w => (dats m 0 c).arrAt w (cfgs 0).N) b

set_option maxHeartbeats 2000000 in
/-- The host operations after the widening call compute the stages. -/
theorem tail : Pipeline.afterTail₀ cfgs (dats m) 0 (V0 m) [hostOps1, hostOps1_1, hostOps1_2] c main_v75
    = refR (mid m c main_v0_0) (mid m c main_v0_1) (mid m c main_v0_2) (mid m c main_arg1) (mid m c main_arg3) (mid m c main_arg5)
        (mid m c main_arg6) (mid m c main_arg7) (mid m c main_arg8) (mid m c main_arg9) (mid m c main_arg10) (mid m c main_arg11) := by
  unfold Pipeline.afterTail₀
  rw [List.flatten_cons, List.flatten_cons, List.flatten_cons, List.flatten_nil, List.append_nil, StableHlo.after_append, StableHlo.after_append]
  simp only [hostOps1, hostOps1_1, hostOps1_2]
  after_results_simp
  after_results_loop
  rfl

/-! ## The widened codes -/

/-- Every window of the widening call is its whole array. -/
theorem idx : ∀ t : Fin cfg0.N, win0_0.index t = ![0, 0, 0, 0, 0] ∧ win0_1.index t = ![0, 0, 0, 0, 0] ∧ win0_2.index t = ![0, 0, 0, 0] ∧
    win0_3.index t = ![0, 0, 0, 0, 0] ∧ win0_4.index t = ![0, 0, 0, 0, 0] ∧ win0_5.index t = ![0, 0, 0, 0] :=
  (by decide +kernel : ∀ t : Fin grid0.N, _)

theorem wide3 : (dats m 0 c).arrAt 3 (cfgs 0).N = (show FVec Ideal S3x640x12x2x128 .f32 from m ((c : Thread nD τ).loc main_arg0)) := by
  refine (dats m 0 c).arrAt_eq_of_after_last 3 t0_0 (by decide +kernel) _ fun j => ?_
  blk_simp
  rw [after0_3]
  frame_out
  blk_point [iblk, V, idx t0_0]

theorem wide4 : (dats m 0 c).arrAt 4 (cfgs 0).N = (show FVec Ideal S3x640x12x2x128 .f32 from m ((c : Thread nD τ).loc main_arg2)) := by
  refine (dats m 0 c).arrAt_eq_of_after_last 4 t0_0 (by decide +kernel) _ fun j => ?_
  blk_simp
  rw [after0_4]
  frame_out
  blk_point [iblk, V, idx t0_0]

theorem wide5 : (dats m 0 c).arrAt 5 (cfgs 0).N = (show FVec Ideal S3x640x12x256 .bf16 from m ((c : Thread nD τ).loc main_arg4)) := by
  refine (dats m 0 c).arrAt_eq_of_after_last 5 t0_0 (by decide +kernel) _ fun j => ?_
  blk_simp
  rw [after0_5]
  frame_out
  blk_point [iblk, V, idx t0_0]

theorem mid_v0 : mid m c main_v0_0 = (show FVec Ideal S3x640x12x2x128 .f32 from m ((c : Thread nD τ).loc main_arg0)) :=
  (Pipeline.withArrays_arr spec0 launch0.win.arr_inj c (V0 m c) _ 3).trans (wide3 m c)

theorem mid_v1 : mid m c main_v0_1 = (show FVec Ideal S3x640x12x2x128 .f32 from m ((c : Thread nD τ).loc main_arg2)) :=
  (Pipeline.withArrays_arr spec0 launch0.win.arr_inj c (V0 m c) _ 4).trans (wide4 m c)

theorem mid_v2 : mid m c main_v0_2 = (show FVec Ideal S3x640x12x256 .bf16 from m ((c : Thread nD τ).loc main_arg4)) :=
  (Pipeline.withArrays_arr spec0 launch0.win.arr_inj c (V0 m c) _ 5).trans (wide5 m c)

/-- An argument the widening call does not take is as it was. -/
theorem mid_arg (b : Ref sig .tc) (h : ∀ w, Pipeline.arrRef spec0 w ≠ b) : mid m c b = V0 m c b :=
  Pipeline.withArrays_of_ne spec0 c (V0 m c) _ b h

/-- The result, over the argument arrays. -/
theorem result : Pipeline.afterTail₀ cfgs (dats m) 0 (V0 m) [hostOps1, hostOps1_1, hostOps1_2] c main_v75
    = refR (m ((c : Thread nD τ).loc main_arg0)) (m ((c : Thread nD τ).loc main_arg2)) (m ((c : Thread nD τ).loc main_arg4))
        (m ((c : Thread nD τ).loc main_arg1)) (m ((c : Thread nD τ).loc main_arg3)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) := by
  rw [tail, mid_v0, mid_v1, mid_v2, mid_arg m c main_arg1 (by decide), mid_arg m c main_arg3 (by decide), mid_arg m c main_arg5 (by decide),
    mid_arg m c main_arg6 (by decide), mid_arg m c main_arg7 (by decide), mid_arg m c main_arg8 (by decide), mid_arg m c main_arg9 (by decide),
    mid_arg m c main_arg10 (by decide), mid_arg m c main_arg11 (by decide)]
  rfl

end Cert.ReferenceIdeal.Ref

end
-- ==== Proof.Algebraic.lean ====
/- The value claim: the kernel's result is the reference's, as extended reals. -/
module

public import proofs.«01_k».proof.Defs
public import proofs.«01_k».proof.Proof.Value.Final
public import proofs.«01_k».proof.Proof.Ref.Run
public import proofs.«01_k».proof.Proof.Gen.ReferenceIdeal.Frame
public import proofs.«01_k».proof.Proof.Body.Frame
public import Idealize.ShloMosaic.Lib.Claim

@[expose] public section

set_option maxRecDepth 16384

noncomputable section

namespace Cert.Proof

open Idealize.ShloMosaic Idealize.ShloMosaic.TcCoe Idealize.SL.Sem
open Cert.ReferenceIdeal.Gen (W_main_arg1 W_main_arg3 W_main_arg5 W_main_arg6 W_main_arg7 W_main_arg8 W_main_arg9 W_main_arg10 W_main_arg11)

/-- The reference's stages over one set of argument arrays compute, element by element, what the kernel's array holds
    over an equal set. -/
theorem refR_result {a0 a2 b0 b2 : FVec Ideal Cert.ReferenceIdeal.S3x640x12x2x128 .f32} {a4 b4 : FVec Ideal Cert.ReferenceIdeal.S3x640x12x256 .bf16}
    {a1 a3 b1 b3 : FVec Ideal Cert.ReferenceIdeal.S3x640x12x2 .f32} {a5 b5 : FVec Ideal Cert.ReferenceIdeal.S12x256 .f32}
    {a6 a7 a8 a9 b6 b7 b8 b9 : FVec Ideal Cert.ReferenceIdeal.S128 .f32} {a10 b10 : FVec Ideal Cert.ReferenceIdeal.S256 .f32}
    {a11 b11 : IVec Cert.ReferenceIdeal.S3x640 32}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) :
    Cert.ReferenceIdeal.Ref.refR a0 a2 a4 a1 a3 a5 a6 a7 a8 a9 a10 a11 = fun y : Cert.ReferenceIdeal.S3x640x3072.Idx =>
      Cert.KernelIdeal.Value.result b0 b1 b2 b3 b4 b5 b6 b7 b8 b9 b10 b11 (y 0) (y 1)
        (⟨(y 2).val / 256, Nat.div_lt_of_lt_mul (y 2).isLt⟩ : Fin 12) (⟨(y 2).val % 256, Nat.mod_lt _ (by decide)⟩ : Fin 256) := by
  subst h0 h1 h2 h3 h4 h5 h6 h7 h8 h9 h10 h11
  funext y
  idx_vars y
  exact Cert.ReferenceIdeal.Ref.refR_at a0 a2 a4 a1 a3 a5 a6 a7 a8 a9 a10 a11 _ _ _

set_option maxHeartbeats 2000000 in
/-- From memories agreeing on the arguments both programs run, and end with the same result. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Body.run_main m g
  · run_from Cert.ReferenceIdeal.Gen.run_main m' g' & Cert.ReferenceIdeal.Gen.frame m' g'
    all_goals obtain ⟨h0, h1, h2, h3, h4, h5, h6, h7, h8, h9, h10, h11⟩ := hagree c
    · refine (Cert.ReferenceIdeal.Ref.result m' c).trans ?_
      exact (refR_result h0 h1 h2 h3 h4 h5 h6 h7 h8 h9 h10 h11).trans (Cert.KernelIdeal.Value.final m c).symm
    · exact (W_main_arg1 m' _ c).trans h1
    · exact (W_main_arg3 m' _ c).trans h3
    · exact (W_main_arg5 m' _ c).trans h5
    · exact (W_main_arg6 m' _ c).trans h6
    · exact (W_main_arg7 m' _ c).trans h7
    · exact (W_main_arg8 m' _ c).trans h8
    · exact (W_main_arg9 m' _ c).trans h9
    · exact (W_main_arg10 m' _ c).trans h10
    · exact (W_main_arg11 m' _ c).trans h11

end Cert.Proof

end
-- ==== Proof.lean ====
/- The claims, assembled from the modules under Proof/. -/
module

public import proofs.«01_k».proof.Defs
public import proofs.«01_k».proof.Proof.Plain
public import proofs.«01_k».proof.Proof.Gen.ReferenceIdeal.Frame
public import proofs.«01_k».proof.Proof.Gen.Reference.Frame
public import proofs.«01_k».proof.Proof.Body.Frame
public import proofs.«01_k».proof.Proof.Algebraic
public import Idealize.ShloMosaic.Adequacy
public import Idealize.ShloMosaic.Init

@[expose] public section

noncomputable section

namespace Cert.Proof

open Idealize.ShloMosaic Idealize.SL.Sem

/-- Every claim of Defs.lean. -/
theorem claim : Cert.Claim := ⟨Cert.Kernel.Gen.facts, Cert.KernelIdeal.Gen.facts, Cert.ReferenceIdeal.Gen.facts, Cert.Reference.Gen.facts,
  fun m ρ _ => Cert.Kernel.Plain.frame m ρ,
  fun m ρ _ => Cert.KernelIdeal.Body.frame m ρ,
  fun m ρ _ => Cert.ReferenceIdeal.Gen.frame m ρ,
  fun m ρ _ => Cert.Reference.Gen.frame m ρ,
  IdealRules.named_const.statement Cert.KernelIdeal.κ "scale_log2e" .f32 0x3E0293EE#32 _ rfl,
  trivial,
  algebraic⟩

end Cert.Proof

end
